-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def preserves_Kernel_KernelIdeal : Prop :=
  IdealRules.named_const.Statement Cert.KernelIdeal.κ "score_log2" .f32 0x3DD53B95#32 (((Real.log 2)⁻¹ * (Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v66) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v31) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOut : Cert.Out.Facts) (hOutIdeal : Cert.OutIdeal.Facts) (hOutReferenceIdeal : Cert.OutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Out (hOut := hOut)
    ∧ quiescent_OutIdeal (hOutIdeal := hOutIdeal)
    ∧ quiescent_OutReferenceIdeal (hOutReferenceIdeal := hOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Out_OutIdeal
    ∧ algebraic_OutIdeal_OutReferenceIdeal (hOutIdeal := hOutIdeal) (hOutReferenceIdeal := hOutReferenceIdeal)
-- ==== Pre_finite.lean ====
abbrev S2x4096x2048 : Shape := ⟨3, ![2, 4096, 2048]⟩
abbrev S2x4096x128 : Shape := ⟨3, ![2, 4096, 128]⟩
abbrev S2x256x2048 : Shape := ⟨3, ![2, 256, 2048]⟩
abbrev S2x256x64 : Shape := ⟨3, ![2, 256, 64]⟩
abbrev S_ : Shape := ⟨0, ![]⟩

class Facts : Prop where
  bcast_S_S2x4096x2048 : S_.BroadcastsInDim S2x4096x2048 (![] : Fin 0 → Fin S2x4096x2048.rank)
  bitsLt_bf16_f32 : FTy.bits .bf16 < FTy.bits .f32
  bcast_S_S2x4096x128 : S_.BroadcastsInDim S2x4096x128 (![] : Fin 0 → Fin S2x4096x128.rank)
  bcast_S_S2x256x2048 : S_.BroadcastsInDim S2x256x2048 (![] : Fin 0 → Fin S2x256x2048.rank)
  bcast_S_S2x256x64 : S_.BroadcastsInDim S2x256x64 (![] : Fin 0 → Fin S2x256x64.rank)

variable [Facts]

def fn {F : FTy → Type} [FloatOps F] (main_arg0 : FVec F S2x4096x2048 .f32) (main_arg1 : FVec F S2x4096x2048 .bf16) (main_arg2 : FVec F S2x4096x128 .f32) (main_arg3 : FVec F S2x256x2048 .bf16) (main_arg4 : FVec F S2x256x64 .f32) : IVec S2x4096x2048 1 × IVec S2x4096x2048 1 × IVec S2x4096x128 1 × IVec S2x256x2048 1 × IVec S2x256x64 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S2x4096x2048 .f32 := (extf .f32 · bitsLt_bf16_f32) main_arg1
  let main_v4 : FVec F S2x4096x2048 .f32 := Host.absf main_v3
  let main_cst_0 : FVec F S_ .f32 := constant S_ .f32 0x7F800000#32
  let main_v5 : FVec F S2x4096x2048 .f32 := broadcastInDim S2x4096x2048 ![] bcast_S_S2x4096x2048 main_cst_0
  let main_v6 : IVec S2x4096x2048 1 := cmpf .olt main_v4 main_v5
  let main_v7 : FVec F S2x4096x128 .f32 := Host.absf main_arg2
  let main_cst_1 : FVec F S_ .f32 := constant S_ .f32 0x7F800000#32
  let main_v8 : FVec F S2x4096x128 .f32 := broadcastInDim S2x4096x128 ![] bcast_S_S2x4096x128 main_cst_1
  let main_v9 : IVec S2x4096x128 1 := cmpf .olt main_v7 main_v8
  let main_v10 : FVec F S2x256x2048 .f32 := (extf .f32 · bitsLt_bf16_f32) main_arg3
  let main_v11 : FVec F S2x256x2048 .f32 := Host.absf main_v10
  let main_cst_2 : FVec F S_ .f32 := constant S_ .f32 0x7F800000#32
  let main_v12 : FVec F S2x256x2048 .f32 := broadcastInDim S2x256x2048 ![] bcast_S_S2x256x2048 main_cst_2
  let main_v13 : IVec S2x256x2048 1 := cmpf .olt main_v11 main_v12
  let main_v14 : FVec F S2x256x64 .f32 := Host.absf main_arg4
  let main_cst_3 : FVec F S_ .f32 := constant S_ .f32 0x7F800000#32
  let main_v15 : FVec F S2x256x64 .f32 := broadcastInDim S2x256x64 ![] bcast_S_S2x256x64 main_cst_3
  let main_v16 : IVec S2x256x64 1 := cmpf .olt main_v14 main_v15
  (main_v2, main_v6, main_v9, main_v13, main_v16)
-- ==== Kernel.lean ====
abbrev S2x4096x2048 : Shape := ⟨3, ![2, 4096, 2048]⟩
abbrev S2x4096x128 : Shape := ⟨3, ![2, 4096, 128]⟩
abbrev S2x256x2048 : Shape := ⟨3, ![2, 256, 2048]⟩
abbrev S2x256x64 : Shape := ⟨3, ![2, 256, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S2x4096x1024 : Shape := ⟨3, ![2, 4096, 1024]⟩
abbrev S1x512x256 : Shape := ⟨3, ![1, 512, 256]⟩
abbrev S1x4096x256 : Shape := ⟨3, ![1, 4096, 256]⟩
abbrev S1x4096x128 : Shape := ⟨3, ![1, 4096, 128]⟩
abbrev S1x256x256 : Shape := ⟨3, ![1, 256, 256]⟩
abbrev S1x256x64 : Shape := ⟨3, ![1, 256, 64]⟩
abbrev S512x32 : Shape := ⟨2, ![512, 32]⟩
abbrev S1x512x128 : Shape := ⟨3, ![1, 512, 128]⟩
abbrev S4352x256 : Shape := ⟨2, ![4352, 256]⟩
abbrev S1x4096x64 : Shape := ⟨3, ![1, 4096, 64]⟩
abbrev S4096x64 : Shape := ⟨2, ![4096, 64]⟩
abbrev S4096x128 : Shape := ⟨2, ![4096, 128]⟩
abbrev S1x256x128 : Shape := ⟨3, ![1, 256, 128]⟩
abbrev S256x128 : Shape := ⟨2, ![256, 128]⟩
abbrev S256x64 : Shape := ⟨2, ![256, 64]⟩
abbrev S256x256 : Shape := ⟨2, ![256, 256]⟩
abbrev S256x32 : Shape := ⟨2, ![256, 32]⟩
abbrev S256x4352 : Shape := ⟨2, ![256, 4352]⟩
abbrev S256 : Shape := ⟨1, ![256]⟩
abbrev S256x1 : Shape := ⟨2, ![256, 1]⟩
abbrev S256x4096 : Shape := ⟨2, ![256, 4096]⟩

abbrev nBuf : Space → Nat
  | .hbm => 34
  | .vmem => 19
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .bf16⟩
  | .hbm, ⟨2, _⟩ => ⟨S2x4096x128, .f32⟩
  | .hbm, ⟨3, _⟩ => ⟨S2x256x2048, .bf16⟩
  | .hbm, ⟨4, _⟩ => ⟨S2x256x64, .f32⟩
  | .hbm, ⟨5, _⟩ => ⟨S64, .f32⟩
  | .hbm, ⟨6, _⟩ => ⟨S64x64, .f32⟩
  | .hbm, ⟨7, _⟩ => ⟨S4096, .f32⟩
  | .hbm, ⟨8, _⟩ => ⟨S64, .f32⟩
  | .hbm, ⟨9, _⟩ => ⟨S1x64, .f32⟩
  | .hbm, ⟨10, _⟩ => ⟨S64x64, .f32⟩
  | .hbm, ⟨11, _⟩ => ⟨S4096, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x1, .f32⟩
  | .hbm, ⟨26, _⟩ => ⟨S1x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S2x4096x1024, .bf16⟩
  | .local _ .vmem, ⟨0, _⟩ => ⟨S1x512x256, .f32⟩
  | .local _ .vmem, ⟨1, _⟩ => ⟨S1x512x256, .f32⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .f32⟩
  | .local _ .vmem, ⟨5, _⟩ => ⟨S1x4096x128, .f32⟩
  | .local _ .vmem, ⟨6, _⟩ => ⟨S1x256x256, .bf16⟩
  | .local _ .vmem, ⟨7, _⟩ => ⟨S1x256x256, .bf16⟩
  | .local _ .vmem, ⟨8, _⟩ => ⟨S1x256x64, .f32⟩
  | .local _ .vmem, ⟨9, _⟩ => ⟨S1x256x64, .f32⟩
  | .local _ .vmem, ⟨10, _⟩ => ⟨S512x32, .f32⟩
  | .local _ .vmem, ⟨11, _⟩ => ⟨S512x32, .f32⟩
  | .local _ .vmem, ⟨12, _⟩ => ⟨S512x32, .f32⟩
  | .local _ .vmem, ⟨13, _⟩ => ⟨S512x32, .f32⟩
  | .local _ .vmem, ⟨14, _⟩ => ⟨S4096x32, .f32⟩
  | .local _ .vmem, ⟨15, _⟩ => ⟨S4096x32, .f32⟩
  | .local _ .vmem, ⟨16, _⟩ => ⟨S1x512x128, .bf16⟩
  | .local _ .vmem, ⟨17, _⟩ => ⟨S1x512x128, .bf16⟩
  | .local _ .vmem, ⟨18, _⟩ => ⟨S4352x256, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S4096x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4096x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "score_log2" => some (((Real.log 2)⁻¹ * (Real.sqrt 192)⁻¹ : ℝ) : EReal)
  | _ => none
-- ==== ReferenceIdeal.lean ====
abbrev S2x4096x2048 : Shape := ⟨3, ![2, 4096, 2048]⟩
abbrev S2x4096x128 : Shape := ⟨3, ![2, 4096, 128]⟩
abbrev S2x256x2048 : Shape := ⟨3, ![2, 256, 2048]⟩
abbrev S2x256x64 : Shape := ⟨3, ![2, 256, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S2x4096x8x256 : Shape := ⟨4, ![2, 4096, 8, 256]⟩
abbrev S2x4096x8x192 : Shape := ⟨4, ![2, 4096, 8, 192]⟩
abbrev S2x4096x8x128 : Shape := ⟨4, ![2, 4096, 8, 128]⟩
abbrev S2x4096x8x64 : Shape := ⟨4, ![2, 4096, 8, 64]⟩
abbrev S1x4096x1x32 : Shape := ⟨4, ![1, 4096, 1, 32]⟩
abbrev S2x4096x8x32 : Shape := ⟨4, ![2, 4096, 8, 32]⟩
abbrev S2x4096x64 : Shape := ⟨3, ![2, 4096, 64]⟩
abbrev S1x4096x32 : Shape := ⟨3, ![1, 4096, 32]⟩
abbrev S2x4096x32 : Shape := ⟨3, ![2, 4096, 32]⟩
abbrev S2x4096x1x64 : Shape := ⟨4, ![2, 4096, 1, 64]⟩
abbrev S2x256x8x256 : Shape := ⟨4, ![2, 256, 8, 256]⟩
abbrev S2x256x8x128 : Shape := ⟨4, ![2, 256, 8, 128]⟩
abbrev S2x256x1x64 : Shape := ⟨4, ![2, 256, 1, 64]⟩
abbrev S2x256x8x64 : Shape := ⟨4, ![2, 256, 8, 64]⟩
abbrev S2x256x8x192 : Shape := ⟨4, ![2, 256, 8, 192]⟩
abbrev S2x4352x8x192 : Shape := ⟨4, ![2, 4352, 8, 192]⟩
abbrev S2x4352x8x128 : Shape := ⟨4, ![2, 4352, 8, 128]⟩
abbrev S2x8x4096x4352 : Shape := ⟨4, ![2, 8, 4096, 4352]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x1024 : Shape := ⟨3, ![2, 4096, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .bf16⟩
  | .hbm, ⟨2, _⟩ => ⟨S2x4096x128, .f32⟩
  | .hbm, ⟨3, _⟩ => ⟨S2x256x2048, .bf16⟩
  | .hbm, ⟨4, _⟩ => ⟨S2x256x64, .f32⟩
  | .hbm, ⟨5, _⟩ => ⟨S64, .f32⟩
  | .hbm, ⟨6, _⟩ => ⟨S64x64, .f32⟩
  | .hbm, ⟨7, _⟩ => ⟨S4096, .f32⟩
  | .hbm, ⟨8, _⟩ => ⟨S64, .f32⟩
  | .hbm, ⟨9, _⟩ => ⟨S1x64, .f32⟩
  | .hbm, ⟨10, _⟩ => ⟨S64x64, .f32⟩
  | .hbm, ⟨11, _⟩ => ⟨S4096, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x1, .f32⟩
  | .hbm, ⟨26, _⟩ => ⟨S1x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S2x4096x8x256, .f32⟩
  | .hbm, ⟨34, _⟩ => ⟨S2x4096x8x192, .f32⟩
  | .hbm, ⟨35, _⟩ => ⟨S2x4096x8x128, .f32⟩
  | .hbm, ⟨36, _⟩ => ⟨S2x4096x8x64, .f32⟩
  | .hbm, ⟨37, _⟩ => ⟨S1x4096x1x32, .f32⟩
  | .hbm, ⟨38, _⟩ => ⟨S1x4096x1x32, .f32⟩
  | .hbm, ⟨39, _⟩ => ⟨S2x4096x8x32, .f32⟩
  | .hbm, ⟨40, _⟩ => ⟨S2x4096x8x32, .f32⟩
  | .hbm, ⟨41, _⟩ => ⟨S2x4096x8x32, .f32⟩
  | .hbm, ⟨42, _⟩ => ⟨S2x4096x8x32, .f32⟩
  | .hbm, ⟨43, _⟩ => ⟨S2x4096x8x32, .f32⟩
  | .hbm, ⟨44, _⟩ => ⟨S2x4096x8x32, .f32⟩
  | .hbm, ⟨45, _⟩ => ⟨S2x4096x8x32, .f32⟩
  | .hbm, ⟨46, _⟩ => ⟨S2x4096x8x32, .f32⟩
  | .hbm, ⟨47, _⟩ => ⟨S2x4096x8x32, .f32⟩
  | .hbm, ⟨48, _⟩ => ⟨S2x4096x8x32, .f32⟩
  | .hbm, ⟨49, _⟩ => ⟨S2x4096x8x32, .f32⟩
  | .hbm, ⟨50, _⟩ => ⟨S2x4096x8x32, .f32⟩
  | .hbm, ⟨51, _⟩ => ⟨S2x4096x8x64, .f32⟩
  | .hbm, ⟨52, _⟩ => ⟨S2x4096x8x192, .f32⟩
  | .hbm, ⟨53, _⟩ => ⟨S2x4096x64, .f32⟩
  | .hbm, ⟨54, _⟩ => ⟨S1x4096x32, .f32⟩
  | .hbm, ⟨55, _⟩ => ⟨S1x4096x32, .f32⟩
  | .hbm, ⟨56, _⟩ => ⟨S2x4096x32, .f32⟩
  | .hbm, ⟨57, _⟩ => ⟨S2x4096x32, .f32⟩
  | .hbm, ⟨58, _⟩ => ⟨S2x4096x32, .f32⟩
  | .hbm, ⟨59, _⟩ => ⟨S2x4096x32, .f32⟩
  | .hbm, ⟨60, _⟩ => ⟨S2x4096x32, .f32⟩
  | .hbm, ⟨61, _⟩ => ⟨S2x4096x32, .f32⟩
  | .hbm, ⟨62, _⟩ => ⟨S2x4096x32, .f32⟩
  | .hbm, ⟨63, _⟩ => ⟨S2x4096x32, .f32⟩
  | .hbm, ⟨64, _⟩ => ⟨S2x4096x32, .f32⟩
  | .hbm, ⟨65, _⟩ => ⟨S2x4096x32, .f32⟩
  | .hbm, ⟨66, _⟩ => ⟨S2x4096x32, .f32⟩
  | .hbm, ⟨67, _⟩ => ⟨S2x4096x32, .f32⟩
  | .hbm, ⟨68, _⟩ => ⟨S2x4096x64, .f32⟩
  | .hbm, ⟨69, _⟩ => ⟨S2x4096x8x256, .bf16⟩
  | .hbm, ⟨70, _⟩ => ⟨S2x4096x8x256, .f32⟩
  | .hbm, ⟨71, _⟩ => ⟨S2x4096x8x128, .f32⟩
  | .hbm, ⟨72, _⟩ => ⟨S2x4096x8x128, .f32⟩
  | .hbm, ⟨73, _⟩ => ⟨S2x4096x1x64, .f32⟩
  | .hbm, ⟨74, _⟩ => ⟨S2x4096x8x64, .f32⟩
  | .hbm, ⟨75, _⟩ => ⟨S2x4096x8x192, .f32⟩
  | .hbm, ⟨76, _⟩ => ⟨S2x256x8x256, .bf16⟩
  | .hbm, ⟨77, _⟩ => ⟨S2x256x8x256, .f32⟩
  | .hbm, ⟨78, _⟩ => ⟨S2x256x8x128, .f32⟩
  | .hbm, ⟨79, _⟩ => ⟨S2x256x8x128, .f32⟩
  | .hbm, ⟨80, _⟩ => ⟨S2x256x1x64, .f32⟩
  | .hbm, ⟨81, _⟩ => ⟨S2x256x8x64, .f32⟩
  | .hbm, ⟨82, _⟩ => ⟨S2x256x8x192, .f32⟩
  | .hbm, ⟨83, _⟩ => ⟨S2x4352x8x192, .f32⟩
  | .hbm, ⟨84, _⟩ => ⟨S2x4352x8x128, .f32⟩
  | .hbm, ⟨85, _⟩ => ⟨S2x8x4096x4352, .f32⟩
  | .hbm, ⟨86, _⟩ => ⟨S_, .f32⟩
  | .hbm, ⟨87, _⟩ => ⟨S_, .f32⟩
  | .hbm, ⟨88, _⟩ => ⟨S2x8x4096x4352, .f32⟩
  | .hbm, ⟨89, _⟩ => ⟨S2x8x4096x4352, .f32⟩
  | .hbm, ⟨90, _⟩ => ⟨S_, .f32⟩
  | .hbm, ⟨91, _⟩ => ⟨S2x8x4096, .f32⟩
  | .hbm, ⟨92, _⟩ => ⟨S_, .f32⟩
  | .hbm, ⟨93, _⟩ => ⟨S2x8x4096, .f32⟩
  | .hbm, ⟨94, _⟩ => ⟨S2x8x4096, .f32⟩
  | .hbm, ⟨95, _⟩ => ⟨S2x8x4096x1, .f32⟩
  | .hbm, ⟨96, _⟩ => ⟨S2x8x4096x4352, .f32⟩
  | .hbm, ⟨97, _⟩ => ⟨S2x8x4096x4352, .f32⟩
  | .hbm, ⟨98, _⟩ => ⟨S2x8x4096x4352, .f32⟩
  | .hbm, ⟨99, _⟩ => ⟨S_, .f32⟩
  | .hbm, ⟨100, _⟩ => ⟨S2x8x4096, .f32⟩
  | .hbm, ⟨101, _⟩ => ⟨S2x8x4096x1, .f32⟩
  | .hbm, ⟨102, _⟩ => ⟨S2x8x4096x4352, .f32⟩
  | .hbm, ⟨103, _⟩ => ⟨S2x8x4096x4352, .f32⟩
  | .hbm, ⟨104, _⟩ => ⟨S2x8x128x4096, .f32⟩
  | .hbm, ⟨105, _⟩ => ⟨S2x4096x8x128, .f32⟩
  | .hbm, ⟨106, _⟩ => ⟨S2x4096x1024, .f32⟩
  | .hbm, ⟨107, _⟩ => ⟨S2x4096x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_cst_1 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_cst_2 : Ref sig .tc := ⟨.hbm, 90, rfl⟩
abbrev main_v82 : Ref sig .tc := ⟨.hbm, 91, rfl⟩
abbrev main_cst_3 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_4 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2x1x2048 : Shape := ⟨3, ![2, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x2048 : Shape := ⟨2, ![1, 2048]⟩
abbrev S1x11264 : Shape := ⟨2, ![1, 11264]⟩
abbrev S8x2048 : Shape := ⟨2, ![8, 2048]⟩
abbrev S1x1x2048 : Shape := ⟨3, ![1, 1, 2048]⟩
abbrev S2048x256 : Shape := ⟨2, ![2048, 256]⟩
abbrev S3x256 : Shape := ⟨2, ![3, 256]⟩
abbrev S1x256 : Shape := ⟨2, ![1, 256]⟩
abbrev S256x2048 : Shape := ⟨2, ![256, 2048]⟩
abbrev S1024x2048 : Shape := ⟨2, ![1024, 2048]⟩
abbrev S16x2048 : Shape := ⟨2, ![16, 2048]⟩
abbrev S1024x256 : Shape := ⟨2, ![1024, 256]⟩
abbrev S16x256 : Shape := ⟨2, ![16, 256]⟩
abbrev S1024x128 : Shape := ⟨2, ![1024, 128]⟩
abbrev S1024 : Shape := ⟨1, ![1024]⟩
abbrev S1024x1 : Shape := ⟨2, ![1024, 1]⟩
abbrev S8x128 : Shape := ⟨2, ![8, 128]⟩
abbrev S8 : Shape := ⟨1, ![8]⟩
abbrev S8x1 : Shape := ⟨2, ![8, 1]⟩

abbrev nBuf : Space → Nat
  | .hbm => 17
  | .vmem => 39
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x11264, .f32⟩
  | .hbm, ⟨6, _⟩ => ⟨S3x11264, .f32⟩
  | .hbm, ⟨7, _⟩ => ⟨S11264, .f32⟩
  | .hbm, ⟨8, _⟩ => ⟨S5632x2048, .f32⟩
  | .hbm, ⟨9, _⟩ => ⟨S2048, .f32⟩
  | .hbm, ⟨10, _⟩ => ⟨S2048x11264, .bf16⟩
  | .hbm, ⟨11, _⟩ => ⟨S5632x2048, .bf16⟩
  | .hbm, ⟨12, _⟩ => ⟨S1x2048, .f32⟩
  | .hbm, ⟨13, _⟩ => ⟨S1x11264, .f32⟩
  | .hbm, ⟨14, _⟩ => ⟨S1x11264, .f32⟩
  | .hbm, ⟨15, _⟩ => ⟨S1x2048, .f32⟩
  | .hbm, ⟨16, _⟩ => ⟨S8192x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S256x2048, .bf16⟩
  | .local _ .vmem, ⟨24, _⟩ => ⟨S256x2048, .bf16⟩
  | .local _ .vmem, ⟨25, _⟩ => ⟨S1x2048, .f32⟩
  | .local _ .vmem, ⟨26, _⟩ => ⟨S1024x2048, .f32⟩
  | .local _ .vmem, ⟨27, _⟩ => ⟨S1024x2048, .f32⟩
  | .local _ .vmem, ⟨28, _⟩ => ⟨S1024x2048, .f32⟩
  | .local _ .vmem, ⟨29, _⟩ => ⟨S1024x2048, .bf16⟩
  | .local _ .vmem, ⟨30, _⟩ => ⟨S16x2048, .bf16⟩
  | .local _ .vmem, ⟨31, _⟩ => ⟨S1024x256, .f32⟩
  | .local _ .vmem, ⟨32, _⟩ => ⟨S1024x256, .f32⟩
  | .local _ .vmem, ⟨33, _⟩ => ⟨S16x256, .f32⟩
  | .local _ .vmem, ⟨34, _⟩ => ⟨S16x256, .f32⟩
  | .local _ .vmem, ⟨35, _⟩ => ⟨S1024x256, .f32⟩
  | .local _ .vmem, ⟨36, _⟩ => ⟨S1024x256, .f32⟩
  | .local _ .vmem, ⟨37, _⟩ => ⟨S16x256, .f32⟩
  | .local _ .vmem, ⟨38, _⟩ => ⟨S16x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 23], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c22_i32 : BitVec 32 := 22#32
  let v7 : BitVec 1 := Scalar.cmpi .slt arg1 c22_i32
  let v8 : BitVec 1 := Scalar.andi v6 v7
  let c1_i32 : BitVec 32 := 1#32
  let v9 : BitVec 32 := Scalar.andi arg1 c1_i32
  let c1_i32_4 : BitVec 32 := 1#32
  let v10 : BitVec 1 := Scalar.cmpi .eq v9 c1_i32_4
  let v11 : BitVec 1 := Scalar.andi v8 v10
  let v12 : BitVec 32 := Scalar.extui v11
  let c0_i32_5 : BitVec 32 := 0#32
  let v13 : BitVec 1 := Scalar.cmpi .ne v12 c0_i32_5
  v13

def k0_cond4 (i : grid0.Coords) : BitVec 1 :=
  let arg1 : BitVec 32 := BitVec.ofNat 32 (i 1).val
  let c0_i32_3 : BitVec 32 := 0#32
  let v6 : BitVec 1 := Scalar.cmpi .sgt arg1 c0_i32_3
  let c22_i32 : BitVec 32 := 22#32
  let v7 : BitVec 1 := Scalar.cmpi .slt arg1 c22_i32
  let v8 : BitVec 1 := Scalar.andi v6 v7
  let c1_i32_6 : BitVec 32 := 1#32
  let v14 : BitVec 32 := Scalar.andi arg1 c1_i32_6
  let c0_i32_7 : BitVec 32 := 0#32
  let v15 : BitVec 1 := Scalar.cmpi .eq v14 c0_i32_7
  let v16 : BitVec 1 := Scalar.andi v8 v15
  let v17 : BitVec 32 := Scalar.extui v16
  let c0_i32_8 : BitVec 32 := 0#32
  let v18 : BitVec 1 := Scalar.cmpi .ne v17 c0_i32_8
  v18

def k0_cond5 (i : grid0.Coords) : BitVec 1 :=
  let arg1 : BitVec 32 := BitVec.ofNat 32 (i 1).val
  let c22_i32_9 : BitVec 32 := 22#32
  let v19 : BitVec 1 := Scalar.cmpi .eq arg1 c22_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c22_i32 : BitVec 32 := 22#32
  let v1 : BitVec 32 := Scalar.addi c22_i32 v0
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c22_i32 : BitVec 32 := 22#32
  let v2 : BitVec 32 := Scalar.addi c22_i32 v1
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c22_i32 : BitVec 32 := 22#32
  let v2 : BitVec 32 := Scalar.addi c22_i32 v1
  let c0_i32_0 : BitVec 32 := 0#32
  let c0_i32_1 : BitVec 32 := 0#32
  ![c0_i32_0.toNat, v2.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S1024x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== FfnReferenceIdeal.lean ====
abbrev S8192x2048 : Shape := ⟨2, ![8192, 2048]⟩
abbrev S2048 : Shape := ⟨1, ![2048]⟩
abbrev S2x1x2048 : Shape := ⟨3, ![2, 1, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4098x11264 : Shape := ⟨3, ![2, 4098, 11264]⟩
abbrev S1x11264 : Shape := ⟨2, ![1, 11264]⟩
abbrev S1x1x11264 : Shape := ⟨3, ![1, 1, 11264]⟩
abbrev S2x4096x5632 : Shape := ⟨3, ![2, 4096, 5632]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x11264, .f32⟩
  | .hbm, ⟨6, _⟩ => ⟨S3x11264, .f32⟩
  | .hbm, ⟨7, _⟩ => ⟨S11264, .f32⟩
  | .hbm, ⟨8, _⟩ => ⟨S5632x2048, .f32⟩
  | .hbm, ⟨9, _⟩ => ⟨S2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x11264, .f32⟩
  | .hbm, ⟨35, _⟩ => ⟨S_, .i32⟩
  | .hbm, ⟨36, _⟩ => ⟨S_, .f32⟩
  | .hbm, ⟨37, _⟩ => ⟨S2x4098x11264, .f32⟩
  | .hbm, ⟨38, _⟩ => ⟨S2x4096x11264, .f32⟩
  | .hbm, ⟨39, _⟩ => ⟨S1x11264, .f32⟩
  | .hbm, ⟨40, _⟩ => ⟨S11264, .f32⟩
  | .hbm, ⟨41, _⟩ => ⟨S1x1x11264, .f32⟩
  | .hbm, ⟨42, _⟩ => ⟨S2x4096x11264, .f32⟩
  | .hbm, ⟨43, _⟩ => ⟨S2x4096x11264, .f32⟩
  | .hbm, ⟨44, _⟩ => ⟨S2x4096x11264, .f32⟩
  | .hbm, ⟨45, _⟩ => ⟨S1x11264, .f32⟩
  | .hbm, ⟨46, _⟩ => ⟨S11264, .f32⟩
  | .hbm, ⟨47, _⟩ => ⟨S1x1x11264, .f32⟩
  | .hbm, ⟨48, _⟩ => ⟨S2x4096x11264, .f32⟩
  | .hbm, ⟨49, _⟩ => ⟨S2x4096x11264, .f32⟩
  | .hbm, ⟨50, _⟩ => ⟨S2x4096x11264, .f32⟩
  | .hbm, ⟨51, _⟩ => ⟨S2x4096x11264, .f32⟩
  | .hbm, ⟨52, _⟩ => ⟨S1x11264, .f32⟩
  | .hbm, ⟨53, _⟩ => ⟨S11264, .f32⟩
  | .hbm, ⟨54, _⟩ => ⟨S1x1x11264, .f32⟩
  | .hbm, ⟨55, _⟩ => ⟨S2x4096x11264, .f32⟩
  | .hbm, ⟨56, _⟩ => ⟨S2x4096x11264, .f32⟩
  | .hbm, ⟨57, _⟩ => ⟨S2x4096x11264, .f32⟩
  | .hbm, ⟨58, _⟩ => ⟨S1x1x11264, .f32⟩
  | .hbm, ⟨59, _⟩ => ⟨S2x4096x11264, .f32⟩
  | .hbm, ⟨60, _⟩ => ⟨S2x4096x11264, .f32⟩
  | .hbm, ⟨61, _⟩ => ⟨S2x4096x5632, .f32⟩
  | .hbm, ⟨62, _⟩ => ⟨S2x4096x5632, .f32⟩
  | .hbm, ⟨63, _⟩ => ⟨S2x4096x5632, .f32⟩
  | .hbm, ⟨64, _⟩ => ⟨S2x4096x5632, .f32⟩
  | .hbm, ⟨65, _⟩ => ⟨S_, .f32⟩
  | .hbm, ⟨66, _⟩ => ⟨S2x4096x5632, .f32⟩
  | .hbm, ⟨67, _⟩ => ⟨S2x4096x5632, .f32⟩
  | .hbm, ⟨68, _⟩ => ⟨S_, .f32⟩
  | .hbm, ⟨69, _⟩ => ⟨S2x4096x5632, .f32⟩
  | .hbm, ⟨70, _⟩ => ⟨S2x4096x5632, .f32⟩
  | .hbm, ⟨71, _⟩ => ⟨S2x4096x5632, .f32⟩
  | .hbm, ⟨72, _⟩ => ⟨S2x4096x5632, .f32⟩
  | .hbm, ⟨73, _⟩ => ⟨S2x4096x2048, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S_, .f32⟩
  | .hbm, ⟨79, _⟩ => ⟨S2x4096, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .f32⟩
  | .hbm, ⟨84, _⟩ => ⟨S_, .f32⟩
  | .hbm, ⟨85, _⟩ => ⟨S2x4096x1, .f32⟩
  | .hbm, ⟨86, _⟩ => ⟨S2x4096x1, .f32⟩
  | .hbm, ⟨87, _⟩ => ⟨S2x4096x1, .f32⟩
  | .hbm, ⟨88, _⟩ => ⟨S2x4096x2048, .f32⟩
  | .hbm, ⟨89, _⟩ => ⟨S2x4096x2048, .f32⟩
  | .hbm, ⟨90, _⟩ => ⟨S1x1x2048, .f32⟩
  | .hbm, ⟨91, _⟩ => ⟨S2x4096x2048, .f32⟩
  | .hbm, ⟨92, _⟩ => ⟨S2x4096x2048, .f32⟩
  | .hbm, ⟨93, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_3 : Ref sig .tc := ⟨.hbm, 78, rfl⟩
abbrev main_v54 : Ref sig .tc := ⟨.hbm, 79, rfl⟩
abbrev main_v55 : Ref sig .tc := ⟨.hbm, 80, rfl⟩
abbrev main_cst_4 : Ref sig .tc := ⟨.hbm, 81, rfl⟩
abbrev main_v56 : Ref sig .tc := ⟨.hbm, 82, rfl⟩
abbrev main_v57 : Ref sig .tc := ⟨.hbm, 83, rfl⟩
abbrev main_cst_5 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Out.lean ====
abbrev S8192x1024 : Shape := ⟨2, ![8192, 1024]⟩
abbrev S8192x5120 : Shape := ⟨2, ![8192, 5120]⟩
abbrev S128 : Shape := ⟨1, ![128]⟩
abbrev S2048x2048 : Shape := ⟨2, ![2048, 2048]⟩
abbrev S8192x2048 : Shape := ⟨2, ![8192, 2048]⟩
abbrev S2x1x2048 : Shape := ⟨3, ![2, 1, 2048]⟩
abbrev S1x128 : Shape := ⟨2, ![1, 128]⟩
abbrev S1024x1024 : Shape := ⟨2, ![1024, 1024]⟩
abbrev S1024x512 : Shape := ⟨2, ![1024, 512]⟩
abbrev S1x1x512 : Shape := ⟨3, ![1, 1, 512]⟩
abbrev S1024x128 : Shape := ⟨2, ![1024, 128]⟩
abbrev S1024 : Shape := ⟨1, ![1024]⟩
abbrev S1024x1 : Shape := ⟨2, ![1024, 1]⟩
abbrev S1x512 : Shape := ⟨2, ![1, 512]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5120, .f32⟩
  | .hbm, ⟨3, _⟩ => ⟨S128, .f32⟩
  | .hbm, ⟨4, _⟩ => ⟨S8192x1024, .bf16⟩
  | .hbm, ⟨5, _⟩ => ⟨S2048x2048, .f32⟩
  | .hbm, ⟨6, _⟩ => ⟨S8192x2048, .f32⟩
  | .hbm, ⟨7, _⟩ => ⟨S2x1x2048, .f32⟩
  | .hbm, ⟨8, _⟩ => ⟨S2048x2048, .bf16⟩
  | .hbm, ⟨9, _⟩ => ⟨S1x128, .f32⟩
  | .hbm, ⟨10, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S1x1x512, .f32⟩
  | .local _ .vmem, ⟨16, _⟩ => ⟨S1x1x512, .f32⟩
  | .local _ .vmem, ⟨17, _⟩ => ⟨S1024x512, .f32⟩
  | .local _ .vmem, ⟨18, _⟩ => ⟨S1024x512, .f32⟩
  | .local _ .vmem, ⟨19, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutReferenceIdeal.lean ====
abbrev S8192x1024 : Shape := ⟨2, ![8192, 1024]⟩
abbrev S8192x5120 : Shape := ⟨2, ![8192, 5120]⟩
abbrev S128 : Shape := ⟨1, ![128]⟩
abbrev S2048x2048 : Shape := ⟨2, ![2048, 2048]⟩
abbrev S8192x2048 : Shape := ⟨2, ![8192, 2048]⟩
abbrev S2x1x2048 : Shape := ⟨3, ![2, 1, 2048]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S2x4096x1024 : Shape := ⟨3, ![2, 4096, 1024]⟩
abbrev S2x4096x2048 : Shape := ⟨3, ![2, 4096, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5120, .f32⟩
  | .hbm, ⟨3, _⟩ => ⟨S128, .f32⟩
  | .hbm, ⟨4, _⟩ => ⟨S8192x1024, .bf16⟩
  | .hbm, ⟨5, _⟩ => ⟨S2048x2048, .f32⟩
  | .hbm, ⟨6, _⟩ => ⟨S8192x2048, .f32⟩
  | .hbm, ⟨7, _⟩ => ⟨S2x1x2048, .f32⟩
  | .hbm, ⟨8, _⟩ => ⟨S8192x1024, .f32⟩
  | .hbm, ⟨9, _⟩ => ⟨S2x4096x8x128, .f32⟩
  | .hbm, ⟨10, _⟩ => ⟨S8192x1024, .f32⟩
  | .hbm, ⟨11, _⟩ => ⟨S2x4096x8x128, .f32⟩
  | .hbm, ⟨12, _⟩ => ⟨S2x4096x8x128, .f32⟩
  | .hbm, ⟨13, _⟩ => ⟨S2x4096x8x128, .f32⟩
  | .hbm, ⟨14, _⟩ => ⟨S_, .f32⟩
  | .hbm, ⟨15, _⟩ => ⟨S2x4096x8, .f32⟩
  | .hbm, ⟨16, _⟩ => ⟨S2x4096x8x1, .f32⟩
  | .hbm, ⟨17, _⟩ => ⟨S_, .f32⟩
  | .hbm, ⟨18, _⟩ => ⟨S2x4096x8x1, .f32⟩
  | .hbm, ⟨19, _⟩ => ⟨S2x4096x8x1, .f32⟩
  | .hbm, ⟨20, _⟩ => ⟨S_, .f32⟩
  | .hbm, ⟨21, _⟩ => ⟨S2x4096x8x1, .f32⟩
  | .hbm, ⟨22, _⟩ => ⟨S2x4096x8x1, .f32⟩
  | .hbm, ⟨23, _⟩ => ⟨S2x4096x8x1, .f32⟩
  | .hbm, ⟨24, _⟩ => ⟨S2x4096x8x128, .f32⟩
  | .hbm, ⟨25, _⟩ => ⟨S2x4096x8x128, .f32⟩
  | .hbm, ⟨26, _⟩ => ⟨S1x1x1x128, .f32⟩
  | .hbm, ⟨27, _⟩ => ⟨S2x4096x8x128, .f32⟩
  | .hbm, ⟨28, _⟩ => ⟨S2x4096x8x128, .f32⟩
  | .hbm, ⟨29, _⟩ => ⟨S8192x1024, .f32⟩
  | .hbm, ⟨30, _⟩ => ⟨S2x4096x8x128, .f32⟩
  | .hbm, ⟨31, _⟩ => ⟨S2x4096x8x128, .f32⟩
  | .hbm, ⟨32, _⟩ => ⟨S2x4096x8x128, .f32⟩
  | .hbm, ⟨33, _⟩ => ⟨S_, .f32⟩
  | .hbm, ⟨34, _⟩ => ⟨S2x4096x8x128, .f32⟩
  | .hbm, ⟨35, _⟩ => ⟨S2x4096x8x128, .f32⟩
  | .hbm, ⟨36, _⟩ => ⟨S_, .f32⟩
  | .hbm, ⟨37, _⟩ => ⟨S2x4096x8x128, .f32⟩
  | .hbm, ⟨38, _⟩ => ⟨S2x4096x8x128, .f32⟩
  | .hbm, ⟨39, _⟩ => ⟨S2x4096x8x128, .f32⟩
  | .hbm, ⟨40, _⟩ => ⟨S2x4096x8x128, .f32⟩
  | .hbm, ⟨41, _⟩ => ⟨S2x4096x1024, .f32⟩
  | .hbm, ⟨42, _⟩ => ⟨S8192x1024, .f32⟩
  | .hbm, ⟨43, _⟩ => ⟨S2x4096x1024, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S2x4096x2048, .f32⟩
  | .hbm, ⟨48, _⟩ => ⟨S2x4096x2048, .f32⟩
  | .hbm, ⟨49, _⟩ => ⟨S2x4096x2048, .f32⟩
  | .hbm, ⟨50, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.Softmax.lean ====
/- Pure lemmas over the extended reals, of no program: sums and maxima of 4352 terms taken in 34 groups of 128 lanes, and the
   two ways of writing a softmax-weighted sum (powers of two of scaled differences, normalised after the sum; exponentials
   of differences of scaled scores, normalised before it). -/
module

public import Idealize.ShloMosaic.PureOps.Ideal
public import Idealize.ShloMosaic.PureOps.Ideal.Laws
public import Mathlib.Algebra.BigOperators.Fin
public import Mathlib.Data.EReal.Operations

@[expose] public section

noncomputable section

namespace Cert.Softmax

open Idealize.ShloMosaic
open scoped BigOperators

/-- A maximum over `n + 1` terms, taken from the left. -/
def grpMax (f : ℕ → EReal) : ℕ → EReal
  | 0 => f 0
  | n + 1 => max (grpMax f n) (f (n + 1))

/-- A sum over `n + 1` terms, taken from the left. -/
def grpSum (f : ℕ → EReal) : ℕ → EReal
  | 0 => f 0
  | n + 1 => grpSum f n + f (n + 1)

theorem grpSum_eq (f : ℕ → EReal) (n : ℕ) : grpSum f n = ∑ k ∈ Finset.range (n + 1), f k := by
  induction n with
  | zero => simp [grpSum]
  | succ n ih => rw [grpSum, ih, ← Finset.sum_range_succ]

theorem grpMax_le_iff (f : ℕ → EReal) (n : ℕ) (x : EReal) : grpMax f n ≤ x ↔ ∀ k, k ≤ n → f k ≤ x := by
  induction n with
  | zero => simp [grpMax]
  | succ n ih =>
    rw [grpMax, max_le_iff, ih]
    constructor
    · rintro ⟨h, h'⟩ k hk
      rcases Nat.lt_or_ge k (n + 1) with hlt | hge
      · exact h k (by omega)
      · obtain rfl : k = n + 1 := by omega
        exact h'
    · intro h
      exact ⟨fun k hk => h k (by omega), h _ le_rfl⟩

/-- A sum of 34 · 128 terms is the sum over 128 lanes of each lane's 34 terms. -/
theorem sum_lanes (f : ℕ → EReal) :
    (∑ l : Fin 128, grpSum (fun k => f (128 * k + l.val)) 33) = ∑ j : Fin 4352, f j.val := by
  have h := Fintype.sum_equiv (finProdFinEquiv (m := 34) (n := 128)) (fun p => f (128 * p.1.val + p.2.val))
    (fun j : Fin (34 * 128) => f j.val) (fun p => by congr 1; simp [finProdFinEquiv]; omega)
  rw [show (∑ j : Fin 4352, f j.val) = ∑ j : Fin (34 * 128), f j.val from rfl, ← h, Fintype.sum_prod_type_right]
  refine Finset.sum_congr rfl fun l _ => ?_
  rw [grpSum_eq, Finset.sum_range]

/-- A maximum of 34 · 128 terms is the maximum over 128 lanes of each lane's 34 terms. -/
theorem max_lanes (f : ℕ → EReal) :
    (Finset.univ.fold max ⊥ fun l : Fin 128 => grpMax (fun k => f (128 * k + l.val)) 33)
      = Finset.univ.fold max ⊥ fun j : Fin 4352 => f j.val := by
  refine eq_of_forall_ge_iff fun x => ?_
  rw [Finset.fold_max_le, Finset.fold_max_le]
  simp only [bot_le, true_and, Finset.mem_univ, forall_const, grpMax_le_iff]
  constructor
  · intro h j
    have hj := h ⟨j.val % 128, Nat.mod_lt _ (by norm_num)⟩ (j.val / 128) (by have := j.isLt; omega)
    simpa only [Nat.div_add_mod] using hj
  · intro h l k hk
    exact h ⟨128 * k + l.val, by have := l.isLt; omega⟩

/-- Multiplication by a nonnegative real distributes over a sum of extended reals. -/
theorem sum_mul_coe {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

theorem coe_sum {ι : Type} (s : Finset ι) (f : ι → ℝ) : (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- The maximum of finitely many (at least one) real numbers is one of them, and an upper bound of them. -/
theorem fold_max_coe {n : ℕ} (r : Fin (n + 1) → ℝ) :
    ∃ j, (Finset.univ.fold max ⊥ fun i => ((r i : ℝ) : EReal)) = (r j : EReal) ∧ ∀ i, r i ≤ r j := by
  obtain ⟨j, -, hj⟩ := Finset.exists_max_image Finset.univ r ⟨0, Finset.mem_univ _⟩
  refine ⟨j, le_antisymm ?_ ?_, fun i => hj i (Finset.mem_univ _)⟩
  · rw [Finset.fold_max_le]
    exact ⟨bot_le, fun i hi => EReal.coe_le_coe_iff.mpr (hj i hi)⟩
  · rw [Finset.le_fold_max]
    exact Or.inr ⟨j, Finset.mem_univ _, le_rfl⟩

theorem exp2_scaled (x a : ℝ) :
    Ideal.exp2 ((x : EReal) * (((Real.log 2)⁻¹ * a : ℝ) : EReal)) = ((Real.exp (x * a) : ℝ) : EReal) := by
  have hlog : Real.log 2 ≠ 0 := (Real.log_pos (by norm_num)).ne'
  rw [← EReal.coe_mul]
  show ((Real.rpow 2 _ : ℝ) : EReal) = _
  congr 1
  show (2 : ℝ) ^ (x * ((Real.log 2)⁻¹ * a) : ℝ) = _
  rw [Real.rpow_def_of_pos (by norm_num)]
  congr 1
  field_simp

/-- **The two softmax-weighted sums are equal.** For finite scores `s`, any weights' values `v` and a positive scale `a`:
    the sum of powers of two of `(s - max s) · a / ln 2`, weighted by `v` and divided at the end by the sum of the powers, is
    the sum of `v` weighted by the exponentials of `s · a - max (s · a)`, each divided by their sum. -/
theorem softmax_eq {n : ℕ} (s v : Fin (n + 1) → EReal) (hs : ∀ j, ∃ r : ℝ, s j = (r : EReal)) (a : ℝ) (ha : 0 < a) :
    Ideal.div (∑ j, Ideal.exp2 ((s j - Finset.univ.fold max ⊥ s) * (((Real.log 2)⁻¹ * a : ℝ) : EReal)) * v j)
        (∑ j, Ideal.exp2 ((s j - Finset.univ.fold max ⊥ s) * (((Real.log 2)⁻¹ * a : ℝ) : EReal)))
      = ∑ j, v j * Ideal.div (Ideal.exp (s j * (a : EReal) - Finset.univ.fold max ⊥ fun i => s i * (a : EReal)))
          (∑ j, Ideal.exp (s j * (a : EReal) - Finset.univ.fold max ⊥ fun i => s i * (a : EReal))) := by
  choose r hr using hs
  obtain rfl : s = fun j => ((r j : ℝ) : EReal) := funext hr
  obtain ⟨j0, h0, hmax⟩ := fold_max_coe r
  obtain ⟨j1, h1, hmax1⟩ := fold_max_coe fun i => r i * a
  have e01 : r j1 * a = r j0 * a :=
    le_antisymm (mul_le_mul_of_nonneg_right (hmax j1) ha.le) (hmax1 j0)
  have hk : ∀ j, Ideal.exp2 (((r j : EReal) - Finset.univ.fold max ⊥ fun i => ((r i : ℝ) : EReal)) * (((Real.log 2)⁻¹ * a : ℝ) : EReal))
      = ((Real.exp ((r j - r j0) * a) : ℝ) : EReal) := fun j => by
    rw [h0, ← EReal.coe_sub, exp2_scaled]
  have hr' : ∀ j, Ideal.exp ((r j : EReal) * (a : EReal) - Finset.univ.fold max ⊥ fun i => ((r i : ℝ) : EReal) * (a : EReal))
      = ((Real.exp ((r j - r j0) * a) : ℝ) : EReal) := fun j => by
    have : (fun i => ((r i : ℝ) : EReal) * (a : EReal)) = fun i => ((r i * a : ℝ) : EReal) := funext fun i => (EReal.coe_mul _ _).symm
    rw [this, h1, ← EReal.coe_mul, ← EReal.coe_sub, e01]
    show ((Real.exp _ : ℝ) : EReal) = _
    rw [sub_mul]
  simp only [hk, hr', coe_sum]
  have hpos : 0 < ∑ j, Real.exp ((r j - r j0) * a) :=
    Finset.sum_pos (fun j _ => Real.exp_pos _) ⟨0, Finset.mem_univ _⟩
  simp only [Ideal.div_coe hpos.ne']
  rw [sum_mul_coe _ _ _ (by positivity)]
  refine Finset.sum_congr rfl fun j _ => ?_
  rw [mul_comm (_ : EReal) (v j), mul_assoc]

end Cert.Softmax

end
-- ==== Proof.Arr.lean ====
module

public import Idealize.ShloMosaic.Lib.Pointwise

@[expose] public section

noncomputable section

namespace Cert.Arr

open Idealize.ShloMosaic Idealize.ShloMosaic.Pointwise

/-- The element of a matrix at two natural coordinates (zero outside the matrix). -/
def at2 {a b : ℕ} (X : (⟨2, ![a, b]⟩ : Shape).Idx → EReal) (i j : ℕ) : EReal :=
  if h : i < a ∧ j < b then X (ix2 ⟨i, h.1⟩ ⟨j, h.2⟩) else 0

/-- The element of a stack of matrices at three natural coordinates (zero outside the stack). -/
def at3 {a b n : ℕ} (X : (⟨3, ![a, b, n]⟩ : Shape).Idx → EReal) (i j k : ℕ) : EReal :=
  if h : i < a ∧ j < b ∧ k < n then X (ix3 ⟨i, h.1⟩ ⟨j, h.2.1⟩ ⟨k, h.2.2⟩) else 0

/-- An element of a matrix is the one at its coordinates. -/
theorem at2_mk {a b : ℕ} (X : (⟨2, ![a, b]⟩ : Shape).Idx → EReal) (i j : ℕ) (hi : i < a) (hj : j < b) :
    X (ix2 ⟨i, hi⟩ ⟨j, hj⟩) = at2 X i j := by simp [at2, hi, hj]

/-- An element of a stack is the one at its coordinates. -/
theorem at3_mk {a b n : ℕ} (X : (⟨3, ![a, b, n]⟩ : Shape).Idx → EReal) (i j k : ℕ) (hi : i < a) (hj : j < b) (hk : k < n) :
    X (ix3 ⟨i, hi⟩ ⟨j, hj⟩ ⟨k, hk⟩) = at3 X i j k := by simp [at3, hi, hj, hk]

/-- The same at an index given whole. -/
theorem at2_idx {a b : ℕ} (X : (⟨2, ![a, b]⟩ : Shape).Idx → EReal) (i : (⟨2, ![a, b]⟩ : Shape).Idx) :
    X i = at2 X (i 0).val (i 1).val := by
  rw [← at2_mk X _ _ (i 0).2 (i 1).2]
  congr 1
  funext d; fin_cases d <;> rfl

/-- The same at an index given whole. -/
theorem at3_idx {a b n : ℕ} (X : (⟨3, ![a, b, n]⟩ : Shape).Idx → EReal) (i : (⟨3, ![a, b, n]⟩ : Shape).Idx) :
    X i = at3 X (i 0).val (i 1).val (i 2).val := by
  rw [← at3_mk X _ _ _ (i 0).2 (i 1).2 (i 2).2]
  congr 1
  funext d; fin_cases d <;> rfl

end Cert.Arr

end
-- ==== Proof.Rows.lean ====
module

public import proofs.«01_k».proof.KernelIdeal
public import proofs.«01_k».proof.Proof.Gen.KernelIdeal.Skeleton
public import proofs.«01_k».proof.Proof.Softmax
public import proofs.«01_k».proof.Proof.Arr
public import Idealize.ShloMosaic.Lib.Pointwise

@[expose] public section

set_option maxRecDepth 16384

noncomputable section

namespace Cert.KernelIdeal.Rows

open Idealize.ShloMosaic Idealize.ShloMosaic.Pointwise Cert.KernelIdeal Cert.KernelIdeal.Gen
open scoped BigOperators

/-- The softmax of a row of scores, scaled in base two and summed against a column of values: what a row of the kernel stores. -/
def att (s v : Fin 4352 → EReal) : EReal :=
  Ideal.div
    (∑ j, Ideal.exp2 ((s j - Finset.univ.fold max ⊥ s) * (((Real.log 2)⁻¹ * (Real.sqrt 192)⁻¹ : ℝ) : EReal)) * v j)
    (∑ j, Ideal.exp2 ((s j - Finset.univ.fold max ⊥ s) * (((Real.log 2)⁻¹ * (Real.sqrt 192)⁻¹ : ℝ) : EReal)))

/-- Row `r` of a matrix of 4352 columns, at a natural column (zero past the end). -/
def row (x : FVec Ideal S256x4352 .f32) (r : Fin 256) (n : ℕ) : EReal := if h : n < 4352 then x (ix2 r ⟨n, h⟩) else 0

/-- An element of the row is the row at its column. -/
theorem row_mk (x : FVec Ideal S256x4352 .f32) (r : Fin 256) (n : ℕ) (h : n < 4352) : x (ix2 r ⟨n, h⟩) = row x r n := by
  simp [row, h]

/-- The scale of the scores is the named number `(1 / ln 2) · (1 / √192)`. -/
theorem scale_named : (Named.named Cert.KernelIdeal.κ "score_log2" 1037384597#32 : Ideal .f32) = (((Real.log 2)⁻¹ * (Real.sqrt 192)⁻¹ : ℝ) : EReal) :=
  IdealRules.named_const.ideal_named_scalar _ _ _ _ rfl

/-- The first sub-block's powers of two, element by element. -/
theorem pow_fst (sc : FVec Ideal S256x4352 .f32) (r : Fin 256) (j : Fin 4352) :
    k0_pay18 sc (k0_pay17 sc) (ix2 r j) = Ideal.exp2 ((sc (ix2 r j) - Finset.univ.fold max ⊥ fun i => sc (ix2 r i)) * (((Real.log 2)⁻¹ * (Real.sqrt 192)⁻¹ : ℝ) : EReal)) := by
  have hrow : (fun i : Fin 4352 => sc (ix2 r i)) = fun i => row sc r i.val := funext fun i => row_mk sc r i.1 i.2
  rw [hrow, ← Softmax.max_lanes (row sc r)]
  simp only [Softmax.grpMax, Nat.reduceMul, Nat.reduceAdd, zero_add, Nat.mul_one, Nat.mul_zero]
  pointwise [k0_pay18, k0_pay17]
  simp only [row_mk, scale_named]
  congr 3

/-- The second sub-block's powers of two, element by element. -/
theorem pow_snd (sc : FVec Ideal S256x4352 .f32) (r : Fin 256) (j : Fin 4352) :
    k0_pay24 sc (k0_pay23 sc) (ix2 r j) = Ideal.exp2 ((sc (ix2 r j) - Finset.univ.fold max ⊥ fun i => sc (ix2 r i)) * (((Real.log 2)⁻¹ * (Real.sqrt 192)⁻¹ : ℝ) : EReal)) := by
  have hrow : (fun i : Fin 4352 => sc (ix2 r i)) = fun i => row sc r i.val := funext fun i => row_mk sc r i.1 i.2
  rw [hrow, ← Softmax.max_lanes (row sc r)]
  simp only [Softmax.grpMax, Nat.reduceMul, Nat.reduceAdd, zero_add, Nat.mul_one, Nat.mul_zero]
  pointwise [k0_pay24, k0_pay23]
  simp only [row_mk, scale_named]
  congr 3

/-- The value rows of the batch (4096 of its own, then 256 of the cache) at a key and a column. -/
def vals (kv : Vec Ideal S1x4096x128 .bf16) (kvc : Vec Ideal S1x256x128 .bf16) (e : Fin 128) (j : Fin 4352) : EReal :=
  if h : j.val < 4096 then kv (ix3 0 ⟨j.val, h⟩ e) else kvc (ix3 0 ⟨j.val - 4096, by omega⟩ e)

/-- A product of 4096 terms and one of 256 are one sum over the 4352 keys. -/
theorem sum_split (p : FVec Ideal S256x4352 .f32) (kv : Vec Ideal S1x4096x128 .bf16) (kvc : Vec Ideal S1x256x128 .bf16) (r : Fin 256) (e : Fin 128) :
    (∑ x : Fin 4096, p (ix2 r ⟨x.val, by omega⟩) * kv (ix3 0 x e)) + (∑ x : Fin 256, p (ix2 r ⟨4096 + x.val, by omega⟩) * kvc (ix3 0 x e))
      = ∑ j : Fin 4352, p (ix2 r j) * vals kv kvc e j := by
  have h := Fin.sum_univ_add (a := 4096) (b := 256) fun j : Fin 4352 => p (ix2 r j) * vals kv kvc e j
  refine Eq.trans ?_ h.symm
  congr 1

/-- What the first sub-block stores, from its powers. -/
theorem out_fst (sc : FVec Ideal S256x4352 .f32) (kv : Vec Ideal S1x4096x128 .bf16) (kvc : Vec Ideal S1x256x128 .bf16) (r : Fin 256) (e : Fin 128) :
    k0_pay22 (k0_pay20 (k0_pay18 sc (k0_pay17 sc)) kv kvc) (k0_pay21 (k0_pay18 sc (k0_pay17 sc)) (k0_pay19 sc (k0_pay17 sc))) (ix3 0 r e)
      = att (fun j => sc (ix2 r j)) (vals kv kvc e) := by
  have hq : ∀ x : Fin 128, k0_pay19 sc (k0_pay17 sc) (ix2 r x) = Softmax.grpSum (fun k => row (k0_pay18 sc (k0_pay17 sc)) r (128 * k + x.val)) 14 := by
    intro x
    simp only [Softmax.grpSum, Nat.reduceMul, Nat.reduceAdd, zero_add, Nat.mul_one, Nat.mul_zero]
    generalize hp : k0_pay18 sc (k0_pay17 sc) = p
    have : k0_pay19 sc (k0_pay17 sc) = k0_pay19 sc (k0_pay17 sc) := rfl
    unfold k0_pay19
    rw [hp]
    pointwise []
    simp only [row_mk]
  unfold att
  rw [show (fun j : Fin 4352 => Ideal.exp2 ((sc (ix2 r j) - Finset.univ.fold max ⊥ fun i => sc (ix2 r i)) * (((Real.log 2)⁻¹ * (Real.sqrt 192)⁻¹ : ℝ) : EReal)))
      = fun j => k0_pay18 sc (k0_pay17 sc) (ix2 r j) from funext fun j => (pow_fst sc r j).symm]
  simp only [← pow_fst]
  revert hq
  generalize k0_pay19 sc (k0_pay17 sc) = q
  generalize k0_pay18 sc (k0_pay17 sc) = p
  intro hq
  have hrow : (fun i : Fin 4352 => p (ix2 r i)) = fun i => row p r i.val := funext fun i => row_mk p r i.1 i.2
  rw [← sum_split, hrow, ← Softmax.sum_lanes (row p r)]
  simp only [Softmax.grpSum, Nat.reduceMul, Nat.reduceAdd, zero_add, Nat.mul_one, Nat.mul_zero] at hq ⊢
  pointwise [k0_pay22, k0_pay20, k0_pay21]
  simp only [hq, row_mk]

/-- What the second sub-block stores, from its powers. -/
theorem out_snd (sc : FVec Ideal S256x4352 .f32) (kv : Vec Ideal S1x4096x128 .bf16) (kvc : Vec Ideal S1x256x128 .bf16) (r : Fin 256) (e : Fin 128) :
    k0_pay1 (k0_pay26 (k0_pay24 sc (k0_pay23 sc)) (k0_pay25 sc (k0_pay23 sc)) kv kvc) (ix3 0 r e)
      = att (fun j => sc (ix2 r j)) (vals kv kvc e) := by
  unfold att
  simp only [← pow_snd]
  have hq := 0
  generalize hp : k0_pay24 sc (k0_pay23 sc) = p
  have hrow : (fun i : Fin 4352 => p (ix2 r i)) = fun i => row p r i.val := funext fun i => row_mk p r i.1 i.2
  rw [← sum_split, hrow, ← Softmax.sum_lanes (row p r)]
  simp only [Softmax.grpSum, Nat.reduceMul, Nat.reduceAdd, zero_add, Nat.mul_one, Nat.mul_zero]
  unfold k0_pay25
  rw [hp]
  pointwise [k0_pay1, k0_pay26]
  simp only [row_mk]

open Cert.Arr

/-- The rotation of 64 numbers whose halves are paired: position `d` of the result. -/
def rope (X C S : ℕ → EReal) (d : ℕ) : EReal :=
  if d < 32 then X d * C d - X (d + 32) * S d else X (d - 32) * S (d - 32) + X d * C (d - 32)

/-- Position `d` of a query: 128 positions as they come, then the 64 rotated ones. -/
def qr (X C S : ℕ → EReal) (d : ℕ) : EReal := if d < 128 then X d else rope (fun n => X (128 + n)) C S (d - 128)

/-- The rotation reads its three rows below their lengths only. -/
theorem rope_congr {X X' C C' S S' : ℕ → EReal} (hX : ∀ n < 64, X n = X' n) (hC : ∀ n < 32, C n = C' n) (hS : ∀ n < 32, S n = S' n)
    (d : ℕ) (hd : d < 64) : rope X C S d = rope X' C' S' d := by
  unfold rope
  split_ifs with h
  · rw [hX _ hd, hX _ (by omega), hC _ h, hS _ h]
  · rw [hX _ hd, hX _ (by omega), hC _ (by omega), hS _ (by omega)]

/-- A query reads its three rows below their lengths only. -/
theorem qr_congr {X X' C C' S S' : ℕ → EReal} (hX : ∀ n < 192, X n = X' n) (hC : ∀ n < 32, C n = C' n) (hS : ∀ n < 32, S n = S' n)
    (d : ℕ) (hd : d < 192) : qr X C S d = qr X' C' S' d := by
  unfold qr
  split_ifs with h
  · exact hX _ hd
  · exact rope_congr (fun n hn => hX _ (by omega)) hC hS _ (by omega)

/-- A sum of 256 terms of which the last 64 vanish is one of 192. -/
theorem sum_192 (f : Fin 256 → EReal) (h : ∀ x : Fin 256, 192 ≤ x.val → f x = 0) :
    ∑ x, f x = ∑ d : Fin 192, f ⟨d.val, by omega⟩ := by
  have h2 := Fin.sum_univ_add (a := 192) (b := 64) f
  refine h2.trans ?_
  rw [Finset.sum_eq_zero (s := Finset.univ) (f := fun i : Fin 64 => f (Fin.natAdd 192 i)) fun x _ => h _ (by simp [Fin.natAdd]), add_zero]
  rfl

/-- An element of a block of queries, at its coordinates. -/
theorem q_mk (X : Vec Ideal S1x256x256 .f32) (r : Fin 256) (n : ℕ) (h : n < 256) : X (ix3 0 r ⟨n, h⟩) = at3 X 0 r.val n :=
  at3_mk X 0 r.val n (by omega) r.2 h

/-- An element of a rotary table's block, at its coordinates. -/
theorem c_mk (C : Vec Ideal S256x32 .f32) (r : Fin 256) (n : ℕ) (h : n < 32) : C (ix2 r ⟨n, h⟩) = at2 C r.val n :=
  at2_mk C r.val n r.2 h

/-- The rotated query as the kernel's concatenations spell it. -/
theorem qr_ite (X : Vec Ideal S1x256x256 .f32) (C S : Vec Ideal S256x32 .f32) (r : Fin 256) (d : Fin 192) :
    (if h : d.val < 128 then X (ix3 0 r ⟨d.val, by omega⟩)
      else if h : d.val - 128 < 64 then
        if h' : d.val - 128 < 32 then
          X (ix3 0 r ⟨128 + (d.val - 128), by omega⟩) * C (ix2 r ⟨d.val - 128, h'⟩) - X (ix3 0 r ⟨128 + (32 + (d.val - 128)), by omega⟩) * S (ix2 r ⟨d.val - 128, h'⟩)
        else
          X (ix3 0 r ⟨128 + (d.val - 128 - 32), by omega⟩) * S (ix2 r ⟨d.val - 128 - 32, by omega⟩) + X (ix3 0 r ⟨128 + (32 + (d.val - 128 - 32)), by omega⟩) * C (ix2 r ⟨d.val - 128 - 32, by omega⟩)
      else (0 : EReal)) = qr (at3 X 0 r.val) (at2 C r.val) (at2 S r.val) d.val := by
  simp only [q_mk, c_mk]
  have hd := d.isLt
  generalize d.val = n at hd ⊢
  unfold qr rope
  by_cases h1 : n < 128
  · rw [dif_pos h1, if_pos h1]
  · rw [dif_neg h1, if_neg h1, dif_pos (by omega)]
    by_cases h2 : n - 128 < 32
    · rw [dif_pos h2, if_pos h2, Nat.add_comm 32]
    · rw [dif_neg h2, if_neg h2, show 32 + (n - 128 - 32) = n - 128 by omega]

/-- The scores of the first sub-block. -/
theorem score_fst (X : Vec Ideal S1x256x256 .f32) (C S : Vec Ideal S256x32 .f32) (K : Vec Ideal S4352x256 .bf16) (r : Fin 256) (j : Fin 4352) :
    k0_pay7 X C S K (ix2 r j) = ∑ d : Fin 192, qr (at3 X 0 r.val) (at2 C r.val) (at2 S r.val) d.val * K (ix2 j ⟨d.val, by omega⟩) := by
  pointwise [k0_pay7]
  refine (sum_192 _ fun x hx => ?_).trans (Finset.sum_congr rfl fun d _ => ?_)
  · rw [dif_neg (by omega), dif_neg (by omega), zero_mul]
  · congr 1
    exact qr_ite X C S r d

/-- The scores of the second sub-block. -/
theorem score_snd (X : Vec Ideal S1x256x256 .f32) (C S : Vec Ideal S256x32 .f32) (K : Vec Ideal S4352x256 .bf16) (r : Fin 256) (j : Fin 4352) :
    k0_pay16 (k0_pay8 X) (k0_pay10 C) (k0_pay11 S) (k0_pay12 X) (k0_pay13 X) (k0_pay14 X C) (k0_pay15 X S) K (ix2 r j)
      = ∑ d : Fin 192, qr (at3 X 0 r.val) (at2 C r.val) (at2 S r.val) d.val * K (ix2 j ⟨d.val, by omega⟩) := by
  pointwise [k0_pay16, k0_pay8, k0_pay9, k0_pay10, k0_pay11, k0_pay12, k0_pay13, k0_pay14, k0_pay15]
  refine (sum_192 _ fun x hx => ?_).trans (Finset.sum_congr rfl fun d _ => ?_)
  · rw [dif_neg (by omega), dif_neg (by omega), zero_mul]
  · congr 1
    exact qr_ite X C S r d

/-- The keys of the batch itself, first 128 columns: the array as it comes. -/
theorem pay2_apply (x : Vec Ideal S1x4096x128 .bf16) (j : Fin 4096) (d : Fin 128) : k0_pay2 x (ix2 j d) = at3 x 0 j.val d.val := by
  pointwise [k0_pay2]
  exact at3_mk x 0 j.val d.val (by omega) j.2 d.2

/-- The keys of the cache, first 128 columns: the array as it comes. -/
theorem pay4_apply (x : Vec Ideal S1x256x128 .bf16) (j : Fin 256) (d : Fin 128) : k0_pay4 x (ix2 j d) = at3 x 0 j.val d.val := by
  pointwise [k0_pay4]
  exact at3_mk x 0 j.val d.val (by omega) j.2 d.2

/-- The keys of the batch itself, last 128 columns: 64 rotated positions, then zeros. -/
theorem pay3_apply (x : Vec Ideal S1x4096x64 .f32) (C S : Vec Ideal S4096x32 .f32) (j : Fin 4096) (d : Fin 128) :
    k0_pay3 x C S (ix2 j d) = if d.val < 64 then rope (at3 x 0 j.val) (at2 C j.val) (at2 S j.val) d.val else 0 := by
  pointwise [k0_pay3]
  have hx : ∀ n (h : n < 64), x (ix3 0 j ⟨n, h⟩) = at3 x 0 j.val n := fun n h => at3_mk x 0 j.val n (by omega) j.2 h
  have hc : ∀ (C : Vec Ideal S4096x32 .f32) n (h : n < 32), C (ix2 j ⟨n, h⟩) = at2 C j.val n := fun C n h => at2_mk C j.val n j.2 h
  simp only [hx, hc]
  unfold rope
  by_cases h1 : d.val < 64
  · rw [dif_pos h1, if_pos h1]
    by_cases h2 : d.val < 32
    · rw [dif_pos h2, if_pos h2, Nat.add_comm 32]
    · rw [dif_neg h2, if_neg h2, show 32 + (d.val - 32) = d.val by omega]
  · rw [dif_neg h1, if_neg h1]

/-- The keys of the cache, last 128 columns: the 64 positions as they come, then zeros. -/
theorem pay6_apply (x : Vec Ideal S1x256x64 .f32) (j : Fin 256) (d : Fin 128) :
    k0_pay6 (k0_pay5 x) (FloatOps.ofBits FTy.f32 0#32) (ix2 j d) = if d.val < 64 then at3 x 0 j.val d.val else 0 := by
  pointwise [k0_pay6, k0_pay5]
  have hx : ∀ n (h : n < 64), x (ix3 0 j ⟨n, h⟩) = at3 x 0 j.val n := fun n h => at3_mk x 0 j.val n (by omega) j.2 h
  simp only [hx]
  split_ifs <;> rfl

end Cert.KernelIdeal.Rows

end
-- ==== Proof.Blocks.lean ====
module

public import proofs.«01_k».proof.Proof.Rows
public import proofs.«01_k».proof.Proof.Gen.KernelIdeal.Value
public import Idealize.ShloMosaic.Lib.Pipeline.ValueKit.Tiles

@[expose] public section

set_option maxRecDepth 16384

noncomputable section

namespace Cert.KernelIdeal.Blocks

open Idealize.ShloMosaic Idealize.ShloMosaic.TcCoe Idealize.SL.Sem Idealize.ShloMosaic.Pointwise Cert.KernelIdeal Cert.KernelIdeal.Gen Cert.KernelIdeal.Rows Cert.Arr
open Idealize.ShloMosaic.Pipeline (Dat)
open scoped BigOperators

variable (c : Dev nD) (t : Fin cfg0.N)
variable (x0 : Vec Ideal S1x512x256 .f32) (x1 : Vec Ideal S1x4096x256 .bf16) (x2 : Vec Ideal S1x4096x128 .f32) (x3 : Vec Ideal S1x256x256 .bf16) (x4 : Vec Ideal S1x256x64 .f32)
  (x5 x6 : Vec Ideal S512x32 .f32) (x7 x8 : Vec Ideal S4096x32 .f32)

/-- The keys of one head at key `j` and position `d`, from the point's blocks: the batch's own keys rotated, then the cache's as they come, both padded to 256 positions. -/
def kblk (j d : ℕ) : EReal :=
  if j < 4096 then if d < 128 then at3 x1 0 j d else if d - 128 < 64 then rope (at3 x2 0 j) (at2 x7 j) (at2 x8 j) (d - 128) else 0
  else if d < 128 then at3 x3 0 (j - 4096) d else if d - 128 < 64 then at3 x4 0 (j - 4096) (d - 128) else 0

/-- The batch's own keys, first 128 positions. -/
theorem kblk_11 (i j : ℕ) (hi : i < 4096) (hj : j < 128) : kblk x1 x2 x3 x4 x7 x8 i j = at3 x1 0 i j := (if_pos hi).trans (if_pos hj)

/-- The batch's own keys, last 128 positions. -/
theorem kblk_12 (i j : ℕ) (hi : i < 4096) : kblk x1 x2 x3 x4 x7 x8 i (128 + j) = if j < 64 then rope (at3 x2 0 i) (at2 x7 i) (at2 x8 i) j else 0 := by
  refine (if_pos hi).trans ((if_neg (by omega)).trans ?_)
  rw [Nat.add_sub_cancel_left]

/-- The cache's keys, first 128 positions. -/
theorem kblk_21 (i j : ℕ) (hj : j < 128) : kblk x1 x2 x3 x4 x7 x8 (4096 + i) j = at3 x3 0 i j := by
  refine (if_neg (by omega)).trans ((if_pos hj).trans ?_)
  rw [Nat.add_sub_cancel_left]

/-- The cache's keys, last 128 positions. -/
theorem kblk_22 (i j : ℕ) : kblk x1 x2 x3 x4 x7 x8 (4096 + i) (128 + j) = if j < 64 then at3 x4 0 i j else 0 := by
  refine (if_neg (by omega)).trans ((if_neg (by omega)).trans ?_)
  rw [Nat.add_sub_cancel_left, Nat.add_sub_cancel_left]

/-- A matrix index is the pair of its coordinates. -/
theorem eq_ix2 {a b : ℕ} (x : (⟨2, ![a, b]⟩ : Shape).Idx) : x = ix2 (x 0) (x 1) := by
  funext d; fin_cases d <;> rfl

/-- An index of a stack is the triple of its coordinates. -/
theorem eq_ix3 {a b n : ℕ} (x : (⟨3, ![a, b, n]⟩ : Shape).Idx) : x = ix3 (x 0) (x 1) (x 2) := by
  funext d; fin_cases d <;> rfl

/-- The coordinates of a matrix index are below its sides. -/
theorem idx2_lt {a b : ℕ} (x : (⟨2, ![a, b]⟩ : Shape).Idx) : (x 0).val < a ∧ (x 1).val < b := ⟨(x 0).2, (x 1).2⟩

/-- A load of part of a stack, at coordinates inside the part: the stack at the coordinates moved by the part's corner. -/
theorem at3_ld {e : EltTy} {a b n a' b' n' o p q : ℕ} (X : (⟨3, ![a, b, n]⟩ : Shape).Idx → EReal) (inb)
    (i j k : ℕ) (hi : i < a') (hj : j < b') (hk : k < n') :
    at3 (View.ld (Val := fun _ => EReal) (e' := e) X (Rect.unit (s := ⟨3, ![a, b, n]⟩) ![o, p, q] ![a', b', n'] inb)) i j k = at3 X (o + i) (p + j) (q + k) := by
  have h0 : o + a' ≤ a := inb 0
  have h1 : p + b' ≤ b := inb 1
  have h2 : q + n' ≤ n := inb 2
  rw [← at3_mk _ i j k hi hj hk, ← at3_mk X (o + i) (p + j) (q + k) (by omega) (by omega) (by omega)]
  refine View.ld_unit_apply_of (Val := fun _ => EReal) X _ _ _ _ _ fun d => ?_
  fin_cases d <;> rfl

/-- A load of part of a matrix, at coordinates inside the part: the matrix at the coordinates moved by the part's corner. -/
theorem at2_ld {e : EltTy} {a b a' b' o p : ℕ} (X : (⟨2, ![a, b]⟩ : Shape).Idx → EReal) (inb)
    (i j : ℕ) (hi : i < a') (hj : j < b') :
    at2 (View.ld (Val := fun _ => EReal) (e' := e) X (Rect.unit (s := ⟨2, ![a, b]⟩) ![o, p] ![a', b'] inb)) i j = at2 X (o + i) (p + j) := by
  have h0 : o + a' ≤ a := inb 0
  have h1 : p + b' ≤ b := inb 1
  rw [← at2_mk _ i j hi hj, ← at2_mk X (o + i) (p + j) (by omega) (by omega)]
  refine View.ld_unit_apply_of (Val := fun _ => EReal) X _ _ _ _ _ fun d => ?_
  fin_cases d <;> rfl

/-- A piece that holds a function of the coordinates of its own indices, moved by its corner. -/
theorem piece2 {a b a' b' o p : ℕ} (inb) (F : ℕ → ℕ → EReal) (i : Fin a') (j : Fin b') :
    F ((Rect.unit (s := ⟨2, ![a, b]⟩) ![o, p] ![a', b'] inb).emb (ix2 i j) 0).val ((Rect.unit (s := ⟨2, ![a, b]⟩) ![o, p] ![a', b'] inb).emb (ix2 i j) 1).val = F (o + i.val) (p + j.val) := by
  congr 1
  · exact congrArg (o + ·) (Nat.one_mul _)
  · exact congrArg (p + ·) (Nat.one_mul _)

/-- Every piece a run's first point stores into the scratch holds the head's keys at its place. -/
theorem pieces_A (h0 : cond0_0 (grid0.coords t)) :
    ∀ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8).2.1,
      ∀ x : p.1.shape.Idx, p.2 x = kblk x1 x2 x3 x4 x7 x8 (p.1.emb x 0).val (p.1.emb x 1).val := by
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp only [List.forall_mem_cons]
  refine ⟨fun x => ?_, fun x => ?_, fun x => ?_, fun x => ?_, ?_⟩
  · obtain ⟨i, j, rfl⟩ : ∃ (i : Fin 256) (j : Fin 128), x = ix2 i j := ⟨x 0, x 1, eq_ix2 x⟩
    have hi : i.val < 256 := i.isLt
    have hj : j.val < 128 := j.isLt
    refine Eq.trans ?_ (piece2 _ (kblk x1 x2 x3 x4 x7 x8) i j).symm
    refine (pay6_apply (View.ld x4 (Rect.unit ![0, 0, 0] ![1, 256, 64] inb_S1x256x64_S1x256x64_0_0_0)) i j).trans ?_
    rw [kblk_22]
    split_ifs with h
    · exact (at3_ld (e := .f32) x4 _ 0 _ _ (by omega) hi h).trans (by simp only [Nat.zero_add])
    · rfl
  · obtain ⟨i, j, rfl⟩ : ∃ (i : Fin 256) (j : Fin 128), x = ix2 i j := ⟨x 0, x 1, eq_ix2 x⟩
    have hi : i.val < 256 := i.isLt
    have hj : j.val < 128 := j.isLt
    refine Eq.trans ?_ (piece2 _ (kblk x1 x2 x3 x4 x7 x8) i j).symm
    refine (pay4_apply (View.ld x3 (Rect.unit ![0, 0, 0] ![1, 256, 128] inb_S1x256x256_S1x256x128_0_0_0)) i j).trans ?_
    rw [Nat.zero_add, kblk_21 _ _ _ _ _ _ _ _ hj]
    exact (at3_ld (e := .bf16) x3 _ 0 _ _ (by omega) hi hj).trans (by simp only [Nat.zero_add])
  · obtain ⟨i, j, rfl⟩ : ∃ (i : Fin 4096) (j : Fin 128), x = ix2 i j := ⟨x 0, x 1, eq_ix2 x⟩
    have hi : i.val < 4096 := i.isLt
    have hj : j.val < 128 := j.isLt
    refine Eq.trans ?_ (piece2 _ (kblk x1 x2 x3 x4 x7 x8) i j).symm
    change k0_pay3 _ _ _ (ix2 i j) = _
    rw [(hs0_2 t).read_unread, (hs0_7 t).read_unread, (hs0_8 t).read_unread]
    refine (pay3_apply (View.ld x2 (Rect.unit ![0, 0, 0] ![1, 4096, 64] inb_S1x4096x128_S1x4096x64_0_0_0)) (View.ld x7 (Rect.unit ![0, 0] ![4096, 32] inb_S4096x32_S4096x32_0_0)) (View.ld x8 (Rect.unit ![0, 0] ![4096, 32] inb_S4096x32_S4096x32_0_0)) i j).trans ?_
    rw [Nat.zero_add, kblk_12 _ _ _ _ _ _ _ _ hi]
    split_ifs with h
    · refine rope_congr (fun n hn => ?_) (fun n hn => ?_) (fun n hn => ?_) _ h
      · exact (at3_ld (e := .f32) x2 _ 0 _ _ (by omega) hi hn).trans (by simp only [Nat.zero_add])
      · exact (at2_ld (e := .f32) x7 _ _ _ hi hn).trans (by simp only [Nat.zero_add])
      · exact (at2_ld (e := .f32) x8 _ _ _ hi hn).trans (by simp only [Nat.zero_add])
    · rfl
  · obtain ⟨i, j, rfl⟩ : ∃ (i : Fin 4096) (j : Fin 128), x = ix2 i j := ⟨x 0, x 1, eq_ix2 x⟩
    have hi : i.val < 4096 := i.isLt
    have hj : j.val < 128 := j.isLt
    refine Eq.trans ?_ (piece2 _ (kblk x1 x2 x3 x4 x7 x8) i j).symm
    refine (pay2_apply (View.ld x1 (Rect.unit ![0, 0, 0] ![1, 4096, 128] inb_S1x4096x256_S1x4096x128_0_0_0)) i j).trans ?_
    rw [Nat.zero_add, Nat.zero_add, kblk_11 _ _ _ _ _ _ _ _ hi hj]
    exact (at3_ld (e := .bf16) x1 _ 0 _ _ (by omega) hi hj).trans (by simp only [Nat.zero_add])
  · exact fun p hp => absurd hp List.not_mem_nil

/-- Row `r`, column `e` of a block of the output, from the point's blocks and the head's keys `K`. -/
def oblk (K : ℕ → ℕ → EReal) (r e : ℕ) : EReal :=
  att (fun j => ∑ d : Fin 192, qr (at3 x0 0 r) (at2 x5 r) (at2 x6 r) d.val * K j.val d.val)
    (fun j => if j.val < 4096 then at3 x1 0 j.val (128 + e) else at3 x3 0 (j.val - 4096) (128 + e))

/-- The values of one head, as the kernel loads them. -/
theorem vals_ld (i1 i3) (e : Fin 128) (j : Fin 4352) :
    vals (View.ld x1 (Rect.unit (s := S1x4096x256) ![0, 0, 128] ![1, 4096, 128] i1)) (View.ld x3 (Rect.unit (s := S1x256x256) ![0, 0, 128] ![1, 256, 128] i3)) e j
      = if j.val < 4096 then at3 x1 0 j.val (128 + e.val) else at3 x3 0 (j.val - 4096) (128 + e.val) := by
  unfold vals
  split_ifs with h
  · refine (at3_mk _ 0 j.val e.val (by omega) h e.2).trans ?_
    exact (at3_ld (e := .bf16) x1 _ 0 _ _ (by omega) h e.2).trans (by simp only [Nat.zero_add])
  · refine (at3_mk _ 0 (j.val - 4096) e.val (by omega) (by omega) e.2).trans ?_
    exact (at3_ld (e := .bf16) x3 _ 0 _ _ (by omega) (by omega) e.2).trans (by simp only [Nat.zero_add])

/-- The query of a row, as the kernel loads it from row `o` of the block on. -/
theorem qr_ld (o : ℕ) (i0 i5 i6) (r : Fin 256) (d : Fin 192) :
    qr (at3 (View.ld x0 (Rect.unit (s := S1x512x256) ![0, o, 0] ![1, 256, 256] i0)) 0 r.val) (at2 (View.ld x5 (Rect.unit (s := S512x32) ![o, 0] ![256, 32] i5)) r.val) (at2 (View.ld x6 (Rect.unit (s := S512x32) ![o, 0] ![256, 32] i6)) r.val) d.val
      = qr (at3 x0 0 (o + r.val)) (at2 x5 (o + r.val)) (at2 x6 (o + r.val)) d.val := by
  refine qr_congr (fun n hn => ?_) (fun n hn => ?_) (fun n hn => ?_) _ d.2
  · exact (at3_ld (e := .f32) x0 _ 0 _ _ (by omega) r.2 (by omega)).trans (by simp only [Nat.zero_add])
  · exact (at2_ld (e := .f32) x5 _ _ _ r.2 hn).trans (by simp only [Nat.zero_add])
  · exact (at2_ld (e := .f32) x6 _ _ _ r.2 hn).trans (by simp only [Nat.zero_add])

/-- What the first half of a point stores. -/
theorem half_fst (i0 i5 i6 i1 i3) (K : Vec Ideal S4352x256 .bf16) (r : Fin 256) (e : Fin 128) (sc : FVec Ideal S256x4352 .f32)
    (hsc : sc = k0_pay7 (View.ld x0 (Rect.unit (s := S1x512x256) ![0, 0, 0] ![1, 256, 256] i0)) (View.ld x5 (Rect.unit (s := S512x32) ![0, 0] ![256, 32] i5)) (View.ld x6 (Rect.unit (s := S512x32) ![0, 0] ![256, 32] i6)) K) :
    k0_pay22 (k0_pay20 (k0_pay18 sc (k0_pay17 sc)) (View.ld x1 (Rect.unit (s := S1x4096x256) ![0, 0, 128] ![1, 4096, 128] i1)) (View.ld x3 (Rect.unit (s := S1x256x256) ![0, 0, 128] ![1, 256, 128] i3)))
        (k0_pay21 (k0_pay18 sc (k0_pay17 sc)) (k0_pay19 sc (k0_pay17 sc))) (ix3 0 r e)
      = oblk x0 x1 x3 x5 x6 (at2 K) (0 + r.val) e.val := by
  rw [out_fst, hsc]
  refine congrArg₂ att ?_ ?_
  · funext j
    rw [score_fst]
    refine Finset.sum_congr rfl fun d _ => ?_
    rw [qr_ld]
    exact congrArg _ (at2_mk K j.val d.val j.2 (by omega))
  · funext j
    exact vals_ld x1 x3 i1 i3 e j

/-- What the second half of a point stores. -/
theorem half_snd (i0 i5 i6 i1 i3) (K : Vec Ideal S4352x256 .bf16) (r : Fin 256) (e : Fin 128) (sc : FVec Ideal S256x4352 .f32)
    (X : Vec Ideal S1x256x256 .f32) (hX : X = View.ld x0 (Rect.unit (s := S1x512x256) ![0, 256, 0] ![1, 256, 256] i0))
    (C : Vec Ideal S256x32 .f32) (hC : C = View.ld x5 (Rect.unit (s := S512x32) ![256, 0] ![256, 32] i5))
    (S : Vec Ideal S256x32 .f32) (hS : S = View.ld x6 (Rect.unit (s := S512x32) ![256, 0] ![256, 32] i6))
    (hsc : sc = k0_pay16 (k0_pay8 X) (k0_pay10 C) (k0_pay11 S) (k0_pay12 X) (k0_pay13 X) (k0_pay14 X C) (k0_pay15 X S) K) :
    k0_pay1 (k0_pay26 (k0_pay24 sc (k0_pay23 sc)) (k0_pay25 sc (k0_pay23 sc)) (View.ld x1 (Rect.unit (s := S1x4096x256) ![0, 0, 128] ![1, 4096, 128] i1)) (View.ld x3 (Rect.unit (s := S1x256x256) ![0, 0, 128] ![1, 256, 128] i3))) (ix3 0 r e)
      = oblk x0 x1 x3 x5 x6 (at2 K) (256 + r.val) e.val := by
  rw [out_snd, hsc]
  refine congrArg₂ att ?_ ?_
  · funext j
    rw [score_snd, hX, hC, hS]
    refine Finset.sum_congr rfl fun d _ => ?_
    rw [qr_ld]
    exact congrArg _ (at2_mk K j.val d.val j.2 (by omega))
  · funext j
    exact vals_ld x1 x3 i1 i3 e j

/-- A piece of a stack of one matrix that holds a function of the coordinates of its own indices, moved by its corner. -/
theorem piece3 {a b a' b' o p : ℕ} (inb) (F : ℕ → ℕ → EReal) (i : Fin a') (j : Fin b') :
    F ((Rect.unit (s := ⟨3, ![1, a, b]⟩) ![0, o, p] ![1, a', b'] inb).emb (ix3 0 i j) 1).val ((Rect.unit (s := ⟨3, ![1, a, b]⟩) ![0, o, p] ![1, a', b'] inb).emb (ix3 0 i j) 2).val = F (o + i.val) (p + j.val) := by
  congr 1
  · exact congrArg (o + ·) (Nat.one_mul _)
  · exact congrArg (p + ·) (Nat.one_mul _)

/-- An index of a stack of one matrix is zero and a pair. -/
theorem eq_ix3_zero {b n : ℕ} (x : (⟨3, ![1, b, n]⟩ : Shape).Idx) : x = ix3 0 (x 1) (x 2) := by
  funext d
  fin_cases d
  · exact Subsingleton.elim (α := Fin 1) _ _
  · rfl
  · rfl

/-- The two spellings of the zero corner. -/
theorem hz : (![0, 0] : Fin 2 → ℕ) = fun _ => 0 := by funext a; fin_cases a <;> rfl

/-- A row of output reads the keys below their sizes only. -/
theorem oblk_congr {K K' : ℕ → ℕ → EReal} (h : ∀ j < 4352, ∀ d < 192, K j d = K' j d) (r e : ℕ) :
    oblk x0 x1 x3 x5 x6 K r e = oblk x0 x1 x3 x5 x6 K' r e := by
  refine congrArg₂ att ?_ rfl
  funext j
  exact Finset.sum_congr rfl fun d _ => congrArg _ (h j.val j.2 d.val d.2)

/-- What a point after a run's first leaves in its output block, from its blocks and the keys `K` in the scratch. -/
theorem out_B (h0 : ¬cond0_0 (grid0.coords t)) (K : Vec Ideal S4352x256 .bf16) (y : S1x512x128.Idx) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8 K y
      = oblk x0 x1 x3 x5 x6 (at2 K) (y 1).val (y 2).val := by
  unfold out0_B_9
  rw [View.read_writes_eq_canon _ _ _ (fun y => cover0_B_9 (y := y) ..)]
  refine View.canon_apply_of_pieces (Val := Elt Ideal) (fun y => oblk x0 x1 x3 x5 x6 (at2 K) (y 1).val (y 2).val) _ ?_ y (cover0_B_9 (y := y) ..)
  unfold kernelRun0_B
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread]
  simp only [List.forall_mem_cons]
  refine ⟨fun x => ?_, fun x => ?_, fun p hp => absurd hp List.not_mem_nil⟩
  · obtain ⟨i, j, rfl⟩ : ∃ (i : Fin 256) (j : Fin 128), x = ix3 0 i j := ⟨x 1, x 2, eq_ix3_zero x⟩
    refine Eq.trans ?_ (piece3 _ (oblk x0 x1 x3 x5 x6 (at2 K)) i j).symm
    rw [Nat.zero_add]
    refine (half_snd x0 x1 x3 x5 x6 _ _ _ _ _ _ i j _ _ rfl _ rfl _ rfl rfl).trans ?_
    rw [View.ld_unit_zero hz]
  · obtain ⟨i, j, rfl⟩ : ∃ (i : Fin 256) (j : Fin 128), x = ix3 0 i j := ⟨x 1, x 2, eq_ix3_zero x⟩
    refine Eq.trans ?_ (piece3 _ (oblk x0 x1 x3 x5 x6 (at2 K)) i j).symm
    rw [Nat.zero_add j.val]
    refine (half_fst x0 x1 x3 x5 x6 _ _ _ _ _ _ i j _ rfl).trans ?_
    rw [View.ld_unit_zero hz]

/-- The scratch after a run's first point: the head's keys. -/
theorem sout_A (h0 : cond0_0 (grid0.coords t)) (y : S4352x256.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8 y
      = kblk x1 x2 x3 x4 x7 x8 (y 0).val (y 1).val := by
  unfold sout0_A_0
  rw [View.read_writes_eq_canon _ _ _ (fun y => scover0_A_0 (y := y) ..)]
  exact View.canon_apply_of_pieces (Val := Elt Ideal) (fun y => kblk x1 x2 x3 x4 x7 x8 (y 0).val (y 1).val) _ (pieces_A c t x0 x1 x2 x3 x4 x5 x6 x7 x8 h0) y (scover0_A_0 (y := y) ..)

/-- The keys a run's first point reads back from the scratch it has just filled. -/
theorem keys_A (h0 : cond0_0 (grid0.coords t)) (inb) (j d : ℕ) (hj : j < 4352) (hd : d < 256) :
    at2 ((View.whole cc0_scratch0).readCov (Val := Elt Ideal) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8).2.1
        (Rect.unit (s := S4352x256) ![0, 0] ![4352, 256] inb).toLoadRect) j d = kblk x1 x2 x3 x4 x7 x8 j d := by
  rw [View.readCov_eq_canon_ld _ _ _ (fun y => scover0_A_0 (y := y) ..), View.ld_unit_zero hz, ← at2_mk _ j d hj hd]
  exact View.canon_apply_of_pieces (Val := Elt Ideal) (fun y => kblk x1 x2 x3 x4 x7 x8 (y 0).val (y 1).val) _ (pieces_A c t x0 x1 x2 x3 x4 x5 x6 x7 x8 h0) _ (scover0_A_0 (y := _) ..)

/-- What a run's first point leaves in its output block. -/
theorem out_A (h0 : cond0_0 (grid0.coords t)) (y : S1x512x128.Idx) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8 y
      = oblk x0 x1 x3 x5 x6 (kblk x1 x2 x3 x4 x7 x8) (y 1).val (y 2).val := by
  have hk := fun (inb) (j : ℕ) (hj : j < 4352) (d : ℕ) (hd : d < 192) => keys_A c t x0 x1 x2 x3 x4 x5 x6 x7 x8 h0 inb j d hj (by omega)
  revert hk
  unfold out0_A_9
  rw [View.read_writes_eq_canon _ _ _ (fun y => cover0_A_9 (y := y) ..)]
  intro hk
  refine View.canon_apply_of_pieces (Val := Elt Ideal) (fun y => oblk x0 x1 x3 x5 x6 (kblk x1 x2 x3 x4 x7 x8) (y 1).val (y 2).val) _ ?_ y (cover0_A_9 (y := y) ..)
  revert hk
  unfold kernelRun0_A
  dsimp only
  sl_unfold_run_names
  simp only [View.readAt_eq_ld, (hs0_0 t).read_unread, (hs0_1 t).read_unread, (hs0_3 t).read_unread, (hs0_5 t).read_unread, (hs0_6 t).read_unread]
  intro hk
  simp only [List.forall_mem_cons]
  refine ⟨fun x => ?_, fun x => ?_, fun p hp => absurd hp List.not_mem_nil⟩
  · obtain ⟨i, j, rfl⟩ : ∃ (i : Fin 256) (j : Fin 128), x = ix3 0 i j := ⟨x 1, x 2, eq_ix3_zero x⟩
    refine Eq.trans ?_ (piece3 _ (oblk x0 x1 x3 x5 x6 (kblk x1 x2 x3 x4 x7 x8)) i j).symm
    rw [Nat.zero_add j.val]
    refine (half_snd x0 x1 x3 x5 x6 _ _ _ _ _ _ i j _ _ rfl _ rfl _ rfl rfl).trans ?_
    exact oblk_congr _ _ _ _ _ (hk _) _ _
  · obtain ⟨i, j, rfl⟩ : ∃ (i : Fin 256) (j : Fin 128), x = ix3 0 i j := ⟨x 1, x 2, eq_ix3_zero x⟩
    refine Eq.trans ?_ (piece3 _ (oblk x0 x1 x3 x5 x6 (kblk x1 x2 x3 x4 x7 x8)) i j).symm
    rw [Nat.zero_add j.val]
    refine (half_fst x0 x1 x3 x5 x6 _ _ _ _ _ _ i j _ rfl).trans ?_
    exact oblk_congr _ _ _ _ _ (hk _) _ _

end Cert.KernelIdeal.Blocks

end
-- ==== Proof.Attn.lean ====
module

public import proofs.«01_k».proof.Proof.Blocks

@[expose] public section

set_option maxRecDepth 16384

noncomputable section

namespace Cert.KernelIdeal.Attn

open Idealize.ShloMosaic Idealize.ShloMosaic.TcCoe Idealize.SL.Sem Idealize.ShloMosaic.Pointwise Cert.KernelIdeal Cert.KernelIdeal.Gen Cert.KernelIdeal.Rows Cert.KernelIdeal.Blocks Cert.Arr
open Idealize.ShloMosaic.Pipeline (Dat)
open scoped BigOperators

section Spec

variable (Q KV : (⟨3, ![2, 4096, 2048]⟩ : Shape).Idx → EReal) (M : (⟨3, ![2, 4096, 128]⟩ : Shape).Idx → EReal) (KC : (⟨3, ![2, 256, 2048]⟩ : Shape).Idx → EReal)
  (KP : (⟨3, ![2, 256, 64]⟩ : Shape).Idx → EReal) (C S : (⟨2, ![4096, 32]⟩ : Shape).Idx → EReal)

/-- Position `d` of the query of batch `b`, head `h`, token `t`. -/
def qfull (b h t d : ℕ) : EReal := qr (fun n => at3 Q b t (256 * h + n)) (at2 C t) (at2 S t) d

/-- Position `d` of key `j` of batch `b`, head `h`: the batch's own keys, then the cache's. -/
def kfull (b h j d : ℕ) : EReal :=
  if j < 4096 then if d < 128 then at3 KV b j (256 * h + d) else rope (at3 M b j) (at2 C j) (at2 S j) (d - 128)
  else if d < 128 then at3 KC b (j - 4096) (256 * h + d) else at3 KP b (j - 4096) (d - 128)

/-- Column `e` of value `j` of batch `b`, head `h`: the batch's own values, then the cache's. -/
def vfull (b h j e : ℕ) : EReal :=
  if j < 4096 then at3 KV b j (256 * h + 128 + e) else at3 KC b (j - 4096) (256 * h + 128 + e)

/-- The score of batch `b`, head `h`, token `t` against key `j`. -/
def score (b h t j : ℕ) : EReal := ∑ d : Fin 192, qfull Q C S b h t d.val * kfull KV M KC KP C S b h j d.val

/-- The attention at batch `b`, token `t`, column `n` (head `n / 128`, its column `n % 128`). -/
def attn (b t n : ℕ) : EReal :=
  att (fun j => score Q KV M KC KP C S b (n / 128) t j.val) (fun j => vfull KV KC b (n / 128) j.val (n % 128))

end Spec

variable (m : (ℓ : Loc nD τ sig) → Buf (Elt Ideal) ℓ) (c : Dev nD) (t : Fin cfg0.N)

/-- Where each window's block begins at a point, in blocks. -/
theorem idx_facts : ∀ t : Fin grid0.N,
    (win0_0.index t 0 = t.val / 64 ∧ win0_0.index t 1 = t.val % 8 ∧ win0_0.index t 2 = t.val / 8 % 8)
    ∧ (win0_1.index t 0 = t.val / 64 ∧ win0_1.index t 1 = 0 ∧ win0_1.index t 2 = t.val / 8 % 8)
    ∧ (win0_2.index t 0 = t.val / 64 ∧ win0_2.index t 1 = 0 ∧ win0_2.index t 2 = 0)
    ∧ (win0_3.index t 0 = t.val / 64 ∧ win0_3.index t 1 = 0 ∧ win0_3.index t 2 = t.val / 8 % 8)
    ∧ (win0_4.index t 0 = t.val / 64 ∧ win0_4.index t 1 = 0 ∧ win0_4.index t 2 = 0)
    ∧ (win0_5.index t 0 = t.val % 8 ∧ win0_5.index t 1 = 0)
    ∧ (win0_6.index t 0 = t.val % 8 ∧ win0_6.index t 1 = 0)
    ∧ (win0_7.index t 0 = 0 ∧ win0_7.index t 1 = 0)
    ∧ (win0_8.index t 0 = 0 ∧ win0_8.index t 1 = 0)
    ∧ (win0_9.index t 0 = t.val / 64 ∧ win0_9.index t 1 = t.val % 8 ∧ win0_9.index t 2 = t.val / 8 % 8) := by
  decide +kernel

/-- A block of a rank-three array, read entry by entry at the place its rectangle gives. -/
theorem at3_blk {a b d a' b' d' : ℕ} (X : (⟨3, ![a, b, d]⟩ : Shape).Idx → EReal) (Y : (⟨3, ![a', b', d']⟩ : Shape).Idx → EReal)
    (f : (⟨3, ![a, b, d]⟩ : Shape).Idx → (⟨3, ![a', b', d']⟩ : Shape).Idx) (hX : ∀ i, X i = Y (f i)) {i j k i' j' k' : ℕ}
    (hi : i < a) (hj : j < b) (hk : k < d)
    (h0 : (f (ix3 ⟨i, hi⟩ ⟨j, hj⟩ ⟨k, hk⟩) 0).val = i') (h1 : (f (ix3 ⟨i, hi⟩ ⟨j, hj⟩ ⟨k, hk⟩) 1).val = j')
    (h2 : (f (ix3 ⟨i, hi⟩ ⟨j, hj⟩ ⟨k, hk⟩) 2).val = k') : at3 X i j k = at3 Y i' j' k' := by
  rw [← at3_mk X i j k hi hj hk, hX, at3_idx Y, h0, h1, h2]

/-- The same for a rank-two array. -/
theorem at2_blk {a b a' b' : ℕ} (X : (⟨2, ![a, b]⟩ : Shape).Idx → EReal) (Y : (⟨2, ![a', b']⟩ : Shape).Idx → EReal)
    (f : (⟨2, ![a, b]⟩ : Shape).Idx → (⟨2, ![a', b']⟩ : Shape).Idx) (hX : ∀ i, X i = Y (f i)) {i j i' j' : ℕ}
    (hi : i < a) (hj : j < b)
    (h0 : (f (ix2 ⟨i, hi⟩ ⟨j, hj⟩) 0).val = i') (h1 : (f (ix2 ⟨i, hi⟩ ⟨j, hj⟩) 1).val = j') : at2 X i j = at2 Y i' j' := by
  rw [← at2_mk X i j hi hj, hX, at2_idx Y, h0, h1]

/-- The queries' block at a point. -/
theorem blk0 (r n : ℕ) (hr : r < 512) (hn : n < 256) :
    at3 (iblk m c 0 t) 0 r n = at3 (V m c main_arg0) (t.val / 64) (512 * (t.val % 8) + r) (256 * (t.val / 8 % 8) + n) := by
  obtain ⟨h0, h1, h2⟩ := (idx_facts t).1
  refine at3_blk (iblk m c 0 t) (V m c main_arg0) _ (fun i => by unfold iblk; exact View.read_apply ..) (by omega) hr hn ?_ ?_ ?_
  · show win0_0.index t 0 * 1 + 1 * 0 = t.val / 64; rw [h0]; omega
  · show win0_0.index t 1 * 512 + 1 * r = 512 * (t.val % 8) + r; rw [h1]; omega
  · show win0_0.index t 2 * 256 + 1 * n = 256 * (t.val / 8 % 8) + n; rw [h2]; omega

/-- The block of keys and values at a point. -/
theorem blk1 (r n : ℕ) (hr : r < 4096) (hn : n < 256) :
    at3 (iblk m c 1 t) 0 r n = at3 (V m c main_arg1) (t.val / 64) r (256 * (t.val / 8 % 8) + n) := by
  obtain ⟨h0, h1, h2⟩ := (idx_facts t).2.1
  refine at3_blk (iblk m c 1 t) (V m c main_arg1) _ (fun i => by unfold iblk; exact View.read_apply ..) (by omega) hr hn ?_ ?_ ?_
  · show win0_1.index t 0 * 1 + 1 * 0 = t.val / 64; rw [h0]; omega
  · show win0_1.index t 1 * 4096 + 1 * r = r; rw [h1]; omega
  · show win0_1.index t 2 * 256 + 1 * n = 256 * (t.val / 8 % 8) + n; rw [h2]; omega

/-- The block of rotary keys at a point. -/
theorem blk2 (r n : ℕ) (hr : r < 4096) (hn : n < 128) :
    at3 (iblk m c 2 t) 0 r n = at3 (V m c main_arg2) (t.val / 64) r n := by
  obtain ⟨h0, h1, h2⟩ := (idx_facts t).2.2.1
  refine at3_blk (iblk m c 2 t) (V m c main_arg2) _ (fun i => by unfold iblk; exact View.read_apply ..) (by omega) hr hn ?_ ?_ ?_
  · show win0_2.index t 0 * 1 + 1 * 0 = t.val / 64; rw [h0]; omega
  · show win0_2.index t 1 * 4096 + 1 * r = r; rw [h1]; omega
  · show win0_2.index t 2 * 128 + 1 * n = n; rw [h2]; omega

/-- The cache's block of keys and values at a point. -/
theorem blk3 (r n : ℕ) (hr : r < 256) (hn : n < 256) :
    at3 (iblk m c 3 t) 0 r n = at3 (V m c main_arg3) (t.val / 64) r (256 * (t.val / 8 % 8) + n) := by
  obtain ⟨h0, h1, h2⟩ := (idx_facts t).2.2.2.1
  refine at3_blk (iblk m c 3 t) (V m c main_arg3) _ (fun i => by unfold iblk; exact View.read_apply ..) (by omega) hr hn ?_ ?_ ?_
  · show win0_3.index t 0 * 1 + 1 * 0 = t.val / 64; rw [h0]; omega
  · show win0_3.index t 1 * 256 + 1 * r = r; rw [h1]; omega
  · show win0_3.index t 2 * 256 + 1 * n = 256 * (t.val / 8 % 8) + n; rw [h2]; omega

/-- The cache's block of rotary keys at a point. -/
theorem blk4 (r n : ℕ) (hr : r < 256) (hn : n < 64) :
    at3 (iblk m c 4 t) 0 r n = at3 (V m c main_arg4) (t.val / 64) r n := by
  obtain ⟨h0, h1, h2⟩ := (idx_facts t).2.2.2.2.1
  refine at3_blk (iblk m c 4 t) (V m c main_arg4) _ (fun i => by unfold iblk; exact View.read_apply ..) (by omega) hr hn ?_ ?_ ?_
  · show win0_4.index t 0 * 1 + 1 * 0 = t.val / 64; rw [h0]; omega
  · show win0_4.index t 1 * 256 + 1 * r = r; rw [h1]; omega
  · show win0_4.index t 2 * 64 + 1 * n = n; rw [h2]; omega

/-- The cosines' block at the queries at a point. -/
theorem blk5 (r n : ℕ) (hr : r < 512) (hn : n < 32) :
    at2 (iblk m c 5 t) r n = at2 (V m c main_v24) (512 * (t.val % 8) + r) n := by
  obtain ⟨h0, h1⟩ := (idx_facts t).2.2.2.2.2.1
  refine at2_blk (iblk m c 5 t) (V m c main_v24) _ (fun i => by unfold iblk; exact View.read_apply ..) hr hn ?_ ?_
  · show win0_5.index t 0 * 512 + 1 * r = 512 * (t.val % 8) + r; rw [h0]; omega
  · show win0_5.index t 1 * 32 + 1 * n = n; rw [h1]; omega

/-- The sines' block at the queries at a point. -/
theorem blk6 (r n : ℕ) (hr : r < 512) (hn : n < 32) :
    at2 (iblk m c 6 t) r n = at2 (V m c main_v25) (512 * (t.val % 8) + r) n := by
  obtain ⟨h0, h1⟩ := (idx_facts t).2.2.2.2.2.2.1
  refine at2_blk (iblk m c 6 t) (V m c main_v25) _ (fun i => by unfold iblk; exact View.read_apply ..) hr hn ?_ ?_
  · show win0_6.index t 0 * 512 + 1 * r = 512 * (t.val % 8) + r; rw [h0]; omega
  · show win0_6.index t 1 * 32 + 1 * n = n; rw [h1]; omega

/-- The cosines at the keys at a point. -/
theorem blk7 (r n : ℕ) (hr : r < 4096) (hn : n < 32) :
    at2 (iblk m c 7 t) r n = at2 (V m c main_v24) r n := by
  obtain ⟨h0, h1⟩ := (idx_facts t).2.2.2.2.2.2.2.1
  refine at2_blk (iblk m c 7 t) (V m c main_v24) _ (fun i => by unfold iblk; exact View.read_apply ..) hr hn ?_ ?_
  · show win0_7.index t 0 * 4096 + 1 * r = r; rw [h0]; omega
  · show win0_7.index t 1 * 32 + 1 * n = n; rw [h1]; omega

/-- The sines at the keys at a point. -/
theorem blk8 (r n : ℕ) (hr : r < 4096) (hn : n < 32) :
    at2 (iblk m c 8 t) r n = at2 (V m c main_v25) r n := by
  obtain ⟨h0, h1⟩ := (idx_facts t).2.2.2.2.2.2.2.2.1
  refine at2_blk (iblk m c 8 t) (V m c main_v25) _ (fun i => by unfold iblk; exact View.read_apply ..) hr hn ?_ ?_
  · show win0_8.index t 0 * 4096 + 1 * r = r; rw [h0]; omega
  · show win0_8.index t 1 * 32 + 1 * n = n; rw [h1]; omega

/-- `kfull` at a run's batch and head, from the run's blocks. -/
theorem kblk_full (j d : ℕ) (hj : j < 4352) (hd : d < 192) :
    kblk (iblk m c 1 t) (iblk m c 2 t) (iblk m c 3 t) (iblk m c 4 t) (iblk m c 7 t) (iblk m c 8 t) j d
      = kfull (V m c main_arg1) (V m c main_arg2) (V m c main_arg3) (V m c main_arg4) (V m c main_v24) (V m c main_v25) (t.val / 64) (t.val / 8 % 8) j d := by
  unfold kblk kfull
  split_ifs with h1 h2 h3 h4 h5
  · exact blk1 m c t j d h1 (by omega)
  · exact rope_congr (fun n hn => blk2 m c t j n h1 (by omega)) (fun n hn => blk7 m c t j n h1 hn) (fun n hn => blk8 m c t j n h1 hn) _ h3
  · omega
  · exact blk3 m c t (j - 4096) d (by omega) (by omega)
  · exact blk4 m c t (j - 4096) (d - 128) (by omega) (by omega)
  · omega

/-- At a run's first point the scratch ends holding the keys of the point's batch and head. -/
theorem scratch_A (h0 : t.val % 8 = 0) (j d : ℕ) (hj : j < 4352) (hd : d < 192) : at2 (outsAt0 m c t.val t.isLt).2 j d
      = kfull (V m c main_arg1) (V m c main_arg2) (V m c main_arg3) (V m c main_arg4) (V m c main_v24) (V m c main_v25) (t.val / 64) (t.val / 8 % 8) j d := by
  rw [← kblk_full m c t j d hj hd, ← at2_mk _ _ _ hj (show d < 256 by omega), congrArg Prod.snd (outsAt0_A m c t h0)]
  exact sout_A c t (iblk m c 0 t) (iblk m c 1 t) (iblk m c 2 t) (iblk m c 3 t) (iblk m c 4 t) (iblk m c 5 t) (iblk m c 6 t) (iblk m c 7 t) (iblk m c 8 t) ((hcond0_0 t).mpr h0) (ix2 ⟨j, hj⟩ ⟨d, by omega⟩)

/-- At any other point the scratch is left as it was. -/
theorem scratch_B (h0 : ¬t.val % 8 = 0) :
    (outsAt0 m c t.val t.isLt).2 = (outsAt0 m c (t.val - 1) (Nat.lt_of_le_of_lt (Nat.sub_le _ _) t.isLt)).2 := by
  rw [congrArg Prod.snd (outsAt0_B m c t h0)]
  rfl

/-- After every point the scratch holds the keys of the point's batch and head. -/
theorem scratch (n : ℕ) : ∀ (hn : n < cfg0.N) (j : ℕ) (_ : j < 4352) (d : ℕ) (_ : d < 192), at2 (outsAt0 m c n hn).2 j d
      = kfull (V m c main_arg1) (V m c main_arg2) (V m c main_arg3) (V m c main_arg4) (V m c main_v24) (V m c main_v25) (n / 64) (n / 8 % 8) j d := by
  induction n with
  | zero => exact fun hn j hj d hd => scratch_A m c ⟨0, hn⟩ (Nat.zero_mod 8) j d hj hd
  | succ n ih =>
    intro hn j hj d hd
    by_cases h : (n + 1) % 8 = 0
    · exact scratch_A m c ⟨n + 1, hn⟩ h j d hj hd
    · have e1 : (n + 1) / 64 = n / 64 := by omega
      have e2 : (n + 1) / 8 % 8 = n / 8 % 8 := by omega
      rw [e1, e2]
      exact (congrArg (fun X => at2 X j d) (scratch_B m c ⟨n + 1, hn⟩ h)).trans (ih (Nat.lt_of_succ_lt hn) j hj d hd)

/-- A point's block of the result from its blocks, when `K` agrees with the keys of its batch and head. -/
theorem oblk_full (K : ℕ → ℕ → EReal) (hK : ∀ j < 4352, ∀ d < 192, K j d
      = kfull (V m c main_arg1) (V m c main_arg2) (V m c main_arg3) (V m c main_arg4) (V m c main_v24) (V m c main_v25) (t.val / 64) (t.val / 8 % 8) j d)
    (r e : ℕ) (hr : r < 512) (he : e < 128) :
    oblk (iblk m c 0 t) (iblk m c 1 t) (iblk m c 3 t) (iblk m c 5 t) (iblk m c 6 t) K r e
      = attn (V m c main_arg0) (V m c main_arg1) (V m c main_arg2) (V m c main_arg3) (V m c main_arg4) (V m c main_v24) (V m c main_v25) (t.val / 64) (512 * (t.val % 8) + r) (128 * (t.val / 8 % 8) + e) := by
  unfold oblk attn
  have e1 : (128 * (t.val / 8 % 8) + e) / 128 = t.val / 8 % 8 := by omega
  have e2 : (128 * (t.val / 8 % 8) + e) % 128 = e := by omega
  rw [e1, e2]
  refine congrArg₂ att ?_ ?_
  · funext j
    unfold score qfull
    refine Finset.sum_congr rfl fun d _ => congrArg₂ (· * ·) ?_ (hK j.val j.2 d.val d.2)
    exact qr_congr (fun n hn => blk0 m c t r n hr (by omega)) (fun n hn => blk5 m c t r n hr hn) (fun n hn => blk6 m c t r n hr hn) d.val d.2
  · funext j
    have hj : j.val < 4352 := j.2
    unfold vfull
    split_ifs with h
    · rw [blk1 m c t j.val (128 + e) h (by omega), Nat.add_assoc]
    · rw [blk3 m c t (j.val - 4096) (128 + e) (by omega) (by omega), Nat.add_assoc]

/-- The attention as contents of the result array. -/
def G : S2x4096x1024.Idx → EReal := fun i =>
  attn (V m c main_arg0) (V m c main_arg1) (V m c main_arg2) (V m c main_arg3) (V m c main_arg4) (V m c main_v24) (V m c main_v25) (i 0).val (i 1).val (i 2).val

/-- What a point's write-back writes is its block of the attention. -/
theorem flushed_eq : (dats m 0 c).flushed 9 t = ((cfg0.win 9).blk t).view.read (Elt Ideal) (G m c) := by
  have ht : t.val < 128 := lt_of_lt_of_eq t.isLt N_0
  obtain ⟨g0, g1, g2⟩ := (idx_facts t).2.2.2.2.2.2.2.2.2
  have key : ∀ y : S1x512x128.Idx, attn (V m c main_arg0) (V m c main_arg1) (V m c main_arg2) (V m c main_arg3) (V m c main_arg4) (V m c main_v24) (V m c main_v25) (t.val / 64) (512 * (t.val % 8) + (y 1).val) (128 * (t.val / 8 % 8) + (y 2).val)
      = ((cfg0.win 9).blk t).view.read (Elt Ideal) (G m c) y := by
    intro y
    have hy : (y 0).val < 1 := (y 0).isLt
    rw [View.read_apply]
    unfold G
    have f0 : ((((cfg0.win 9).blk t).view.emb y) 0).val = t.val / 64 := by
      show win0_9.index t 0 * 1 + 1 * (y 0).val = _; rw [g0]; omega
    have f1 : ((((cfg0.win 9).blk t).view.emb y) 1).val = 512 * (t.val % 8) + (y 1).val := by
      show win0_9.index t 1 * 512 + 1 * (y 1).val = _; rw [g1]; omega
    have f2 : ((((cfg0.win 9).blk t).view.emb y) 2).val = 128 * (t.val / 8 % 8) + (y 2).val := by
      show win0_9.index t 2 * 128 + 1 * (y 2).val = _; rw [g2]; omega
    rw [f0, f1, f2]
    exact (cast_eq _ _).symm
  by_cases h0 : t.val % 8 = 0
  · rw [Value.flushed9_A m c t h0]
    funext y
    exact ((out_A c t _ _ _ _ _ _ _ _ _ _ y).trans (oblk_full m c t _ (fun j hj d hd => kblk_full m c t j d hj hd) _ _ (y 1).isLt (y 2).isLt)).trans (key y)
  · rw [Value.flushed9_B m c t h0]
    funext y
    have e1 : (t.val - 1) / 64 = t.val / 64 := by omega
    have e2 : (t.val - 1) / 8 % 8 = t.val / 8 % 8 := by omega
    refine ((out_B c t _ _ _ _ _ _ _ _ _ _ _ y).trans (oblk_full m c t _ (fun j hj d hd => ?_) _ _ (y 1).isLt (y 2).isLt)).trans (key y)
    rw [scratch m c (t.val - 1) _ j hj d hd, e1, e2]

/-- Every entry of the result lies in some point's block. -/
theorem cover (i : S2x4096x1024.Idx) : ∃ t : Fin cfg0.N, (cfg0.win 9).flush t = true ∧ i ∈ ((cfg0.win 9).blk t).view.set := by
  have h0 : (i 0).val < 2 := (i 0).isLt
  have h1 : (i 1).val < 4096 := (i 1).isLt
  have h2 : (i 2).val < 1024 := (i 2).isLt
  have hN : cfg0.N = 128 := N_0
  let t : Fin cfg0.N := ⟨64 * (i 0).val + 8 * ((i 2).val / 128) + (i 1).val / 512, by omega⟩
  have ht : t.val = 64 * (i 0).val + 8 * ((i 2).val / 128) + (i 1).val / 512 := rfl
  clear_value t
  obtain ⟨g0, g1, g2⟩ := (idx_facts t).2.2.2.2.2.2.2.2.2
  refine ⟨t, flush0_9 t, ?_⟩
  show i ∈ ((View.whole main_v26).slice (win0_9.rect t)).set
  rw [View.set_slice_whole, Rect.mem_set_unit]
  intro a
  match a with
  | ⟨0, _⟩ => show win0_9.index t 0 * 1 ≤ (i 0).val ∧ (i 0).val < win0_9.index t 0 * 1 + 1; rw [g0]; omega
  | ⟨1, _⟩ => show win0_9.index t 1 * 512 ≤ (i 1).val ∧ (i 1).val < win0_9.index t 1 * 512 + 512; rw [g1]; omega
  | ⟨2, _⟩ => show win0_9.index t 2 * 128 ≤ (i 2).val ∧ (i 2).val < win0_9.index t 2 * 128 + 128; rw [g2]; omega

/-- The result array ends holding the attention. -/
theorem final_o : (dats m 0 c).arrAt 9 cfg0.N = G m c :=
  (dats m 0 c).arrAt_eq_of_cover 9 (G m c) (fun t _ => flushed_eq m c t) cover

end Cert.KernelIdeal.Attn

end
-- ==== Proof.Ref.lean ====
module

public import proofs.«01_k».proof.Proof.Attn
public import proofs.«01_k».proof.Proof.Gen.ReferenceIdeal.Read

@[expose] public section

set_option maxRecDepth 16384

noncomputable section

namespace Cert.ReferenceIdeal.Ref

open Idealize.ShloMosaic Idealize.ShloMosaic.TcCoe Idealize.SL.Sem Idealize.ShloMosaic.Pointwise Cert.ReferenceIdeal Cert.ReferenceIdeal.Gen Cert.ReferenceIdeal.Read Cert.KernelIdeal.Rows Cert.KernelIdeal.Attn Cert.Arr
open scoped BigOperators

variable (x0 : (⟨S2x4096x2048, .f32⟩ : BufTy).Contents (Elt Ideal)) (x1 : (⟨S2x4096x2048, .bf16⟩ : BufTy).Contents (Elt Ideal)) (x2 : (⟨S2x4096x128, .f32⟩ : BufTy).Contents (Elt Ideal)) (x3 : (⟨S2x256x2048, .bf16⟩ : BufTy).Contents (Elt Ideal)) (x4 : (⟨S2x256x64, .f32⟩ : BufTy).Contents (Elt Ideal))

/-- The cosines of the angles. -/
abbrev C : (⟨2, ![4096, 32]⟩ : Shape).Idx → EReal := val_main_v24 (F := Ideal)

/-- The sines of the angles. -/
abbrev S : (⟨2, ![4096, 32]⟩ : Shape).Idx → EReal := val_main_v25 (F := Ideal)

/-- The queries by head. -/
theorem q26 (b : Fin 2) (t : Fin 4096) (h : Fin 8) (n : Fin 256) :
    val_main_v26 (F := Ideal) x0 (ix4 b t h n) = at3 x0 b.val t.val (256 * h.val + n.val) := by
  have hb : b.val < 2 := b.isLt
  have ht : t.val < 4096 := t.isLt
  have hh : h.val < 8 := h.isLt
  have hn : n.val < 256 := n.isLt
  rw [val_main_v26_apply, at3_idx x0]
  have e0 : (idx_main_v26 (ix4 b t h n) 0).val = b.val := by
    show (((b.val * 4096 + t.val) * 8 + h.val) * 256 + n.val) / 8388608 = b.val; omega
  have e1 : (idx_main_v26 (ix4 b t h n) 1).val = t.val := by
    show (((b.val * 4096 + t.val) * 8 + h.val) * 256 + n.val) / 2048 % 4096 = t.val; omega
  have e2 : (idx_main_v26 (ix4 b t h n) 2).val = 256 * h.val + n.val := by
    show (((b.val * 4096 + t.val) * 8 + h.val) * 256 + n.val) % 2048 = 256 * h.val + n.val; omega
  rw [e0, e1, e2]

/-- The batch's own keys and values by head. -/
theorem kv62 (b : Fin 2) (t : Fin 4096) (h : Fin 8) (n : Fin 256) :
    val_main_v62 (F := Ideal) x1 (ix4 b t h n) = at3 x1 b.val t.val (256 * h.val + n.val) := by
  have hb : b.val < 2 := b.isLt
  have ht : t.val < 4096 := t.isLt
  have hh : h.val < 8 := h.isLt
  have hn : n.val < 256 := n.isLt
  rw [val_main_v62_apply, at3_idx x1]
  have e0 : (idx_main_v62 (ix4 b t h n) 0).val = b.val := by
    show (((b.val * 4096 + t.val) * 8 + h.val) * 256 + n.val) / 8388608 = b.val; omega
  have e1 : (idx_main_v62 (ix4 b t h n) 1).val = t.val := by
    show (((b.val * 4096 + t.val) * 8 + h.val) * 256 + n.val) / 2048 % 4096 = t.val; omega
  have e2 : (idx_main_v62 (ix4 b t h n) 2).val = 256 * h.val + n.val := by
    show (((b.val * 4096 + t.val) * 8 + h.val) * 256 + n.val) % 2048 = 256 * h.val + n.val; omega
  rw [e0, e1, e2]

/-- The cache's keys and values by head. -/
theorem kv69 (b : Fin 2) (t : Fin 256) (h : Fin 8) (n : Fin 256) :
    val_main_v69 (F := Ideal) x3 (ix4 b t h n) = at3 x3 b.val t.val (256 * h.val + n.val) := by
  have hb : b.val < 2 := b.isLt
  have ht : t.val < 256 := t.isLt
  have hh : h.val < 8 := h.isLt
  have hn : n.val < 256 := n.isLt
  rw [val_main_v69_apply, at3_idx x3]
  have e0 : (idx_main_v69 (ix4 b t h n) 0).val = b.val := by
    show (((b.val * 256 + t.val) * 8 + h.val) * 256 + n.val) / 524288 = b.val; omega
  have e1 : (idx_main_v69 (ix4 b t h n) 1).val = t.val := by
    show (((b.val * 256 + t.val) * 8 + h.val) * 256 + n.val) / 2048 % 256 = t.val; omega
  have e2 : (idx_main_v69 (ix4 b t h n) 2).val = 256 * h.val + n.val := by
    show (((b.val * 256 + t.val) * 8 + h.val) * 256 + n.val) % 2048 = 256 * h.val + n.val; omega
  rw [e0, e1, e2]

/-- A table's entry, at its coordinates. -/
theorem tab_mk (X : (⟨2, ![4096, 32]⟩ : Shape).Idx → EReal) (t : ℕ) (ht : t < 4096) (n : ℕ) (h : n < 32) : X (ix2 ⟨t, ht⟩ ⟨n, h⟩) = at2 X t n :=
  at2_mk X t n ht h

/-- The reference's queries: the first 128 positions as they are, the next 64 turned by the token's angles. -/
theorem q45 (b : Fin 2) (t : Fin 4096) (h : Fin 8) (d : Fin 192) :
    val_main_v45 (F := Ideal) x0 (ix4 b t h d) = qfull x0 C S b.val h.val t.val d.val := by
  have hd : d.val < 192 := d.isLt
  obtain ⟨t, ht⟩ := t
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, q26]
  simp only [tab_mk (val_main_v24 (F := Ideal)), tab_mk (val_main_v25 (F := Ideal))]
  unfold qfull qr rope
  split_ifs with h1 h2
  · rfl
  · rw [Nat.add_comm 32]
  · rw [show 32 + (d.val - 128 - 32) = d.val - 128 by omega]

/-- An entry of the rotary keys' array, at its coordinates. -/
theorem m_mk (b : Fin 2) (t : ℕ) (ht : t < 4096) (n : ℕ) (h : n < 128) : x2 (ix3 b ⟨t, ht⟩ ⟨n, h⟩) = at3 x2 b.val t n :=
  at3_mk x2 b.val t n b.2 ht h

/-- An entry of the cache's rotary keys, at its coordinates. -/
theorem kp_mk (b : Fin 2) (t : ℕ) (ht : t < 256) (n : ℕ) (h : n < 64) : x4 (ix3 b ⟨t, ht⟩ ⟨n, h⟩) = at3 x4 b.val t n :=
  at3_mk x4 b.val t n b.2 ht h

/-- The reference's keys. -/
theorem k76 (b : Fin 2) (j : Fin 4352) (h : Fin 8) (d : Fin 192) :
    val_main_v76 (F := Ideal) x1 x2 x3 x4 (ix4 b j h d) = kfull x1 x2 x3 x4 C S b.val h.val j.val d.val := by
  have hd : d.val < 192 := d.isLt
  have hj : j.val < 4352 := j.isLt
  pointwise [val_main_v76, val_main_v75, val_main_v74, val_main_v73, val_main_v72, val_main_v71, val_main_v70, val_main_v68, val_main_v67, val_main_v66, val_main_v65, val_main_v64, val_main_v63, val_main_v61, val_main_v60, val_main_v59, val_main_v58, val_main_v57, val_main_v56, val_main_v55, val_main_v54, val_main_v53, val_main_v52, val_main_v51, val_main_v50, val_main_v49, val_main_v48, val_main_v47, val_main_v46, kv62, kv69]
  simp only [tab_mk (val_main_v24 (F := Ideal)), tab_mk (val_main_v25 (F := Ideal)), m_mk x2, kp_mk x4]
  unfold kfull rope
  split_ifs with h1 h2 h3 h4
  · rfl
  · rw [Nat.add_comm 32]
  · rw [show 32 + (d.val - 128 - 32) = d.val - 128 by omega]
  · rfl
  · rfl

/-- The reference's values. -/
theorem v77 (b : Fin 2) (j : Fin 4352) (h : Fin 8) (e : Fin 128) :
    val_main_v77 (F := Ideal) x1 x3 (ix4 b j h e) = vfull x1 x3 b.val h.val j.val e.val := by
  pointwise [val_main_v77, val_main_v72, val_main_v70, val_main_v65, val_main_v63, kv62, kv69]
  unfold vfull
  split_ifs with h1
  · rw [Nat.add_assoc]
  · rw [Nat.add_assoc]

/-- The reference's scores before their scale. -/
theorem s78 (b : Fin 2) (h : Fin 8) (t : Fin 4096) (j : Fin 4352) :
    val_main_v78 (F := Ideal) x0 x1 x2 x3 x4 (ix4 b h t j) = score x0 x1 x2 x3 x4 C S b.val h.val t.val j.val := by
  rw [val_main_v78_apply]
  unfold score
  refine Finset.sum_congr rfl fun d _ => ?_
  have el : lidx_main_v78 (ix4 b h t j) d = ix4 b t h d := by
    funext a
    match a with
    | ⟨0, _⟩ => rfl
    | ⟨1, _⟩ => rfl
    | ⟨2, _⟩ => rfl
    | ⟨3, _⟩ => rfl
  have er : ridx_main_v78 (ix4 b h t j) d = ix4 b j h d := by
    funext a
    match a with
    | ⟨0, _⟩ => rfl
    | ⟨1, _⟩ => rfl
    | ⟨2, _⟩ => rfl
    | ⟨3, _⟩ => rfl
  rw [el, er]
  exact congrArg₂ (· * ·) (q45 x0 b t h d) (k76 x1 x2 x3 x4 b j h d)

end Cert.ReferenceIdeal.Ref

end
-- ==== Proof.RefSoft.lean ====
module

public import proofs.«01_k».proof.Proof.Ref

@[expose] public section

set_option maxRecDepth 16384

noncomputable section

namespace Cert.ReferenceIdeal.Ref

open Idealize.ShloMosaic Idealize.ShloMosaic.TcCoe Idealize.SL.Sem Idealize.ShloMosaic.Pointwise Cert.ReferenceIdeal Cert.ReferenceIdeal.Gen Cert.ReferenceIdeal.Read Cert.KernelIdeal.Rows Cert.KernelIdeal.Attn Cert.Arr
open scoped BigOperators

variable (x0 : (⟨S2x4096x2048, .f32⟩ : BufTy).Contents (Elt Ideal)) (x1 : (⟨S2x4096x2048, .bf16⟩ : BufTy).Contents (Elt Ideal)) (x2 : (⟨S2x4096x128, .f32⟩ : BufTy).Contents (Elt Ideal)) (x3 : (⟨S2x256x2048, .bf16⟩ : BufTy).Contents (Elt Ideal)) (x4 : (⟨S2x256x64, .f32⟩ : BufTy).Contents (Elt Ideal))

/-- The word of the largest negative value is minus infinity. -/
theorem neg_inf : Ideal.ofBits .f32 4286578688#32 = ⊥ := by simp [Ideal.ofBits, Ideal.ieee]

/-- The divisor of the scores, the root of 192. -/
theorem root (i : S_.Idx) : val_main_v79 (F := Ideal) i = ((Real.sqrt 192 : ℝ) : EReal) := by
  pointwise [val_main_v79, val_main_cst_1]
  have h : Ideal.ofBits .f32 1128267776#32 = ((192 : ℝ) : EReal) := by
    simp [Ideal.ofBits, Ideal.ieee]
    rw [← EReal.coe_mul]
    norm_num
  rw [h, Ideal.sqrt_coe, if_neg (by norm_num)]

/-- The reference's scores. -/
theorem s81 (b : Fin 2) (h : Fin 8) (t : Fin 4096) (j : Fin 4352) :
    val_main_v81 (F := Ideal) x0 x1 x2 x3 x4 (ix4 b h t j) = score x0 x1 x2 x3 x4 C S b.val h.val t.val j.val * (((Real.sqrt 192)⁻¹ : ℝ) : EReal) := by
  rw [val_main_v81_apply, s78, val_main_v80_apply, root]
  have hne : Real.sqrt 192 ≠ 0 := by positivity
  show Ideal.div _ _ = _
  rw [Ideal.div_coe hne, one_div]

/-- The maximum over the last of four axes, from an initial value. -/
theorem max_last {a b c n : ℕ} (h : (⟨4, ![a, b, c, n]⟩ : Shape).ReducesTo [3] ⟨3, ![a, b, c]⟩) {u : Shape} (hu : 0 < u.numel)
    (y : FVec Ideal ⟨4, ![a, b, c, n]⟩ .f32) (init : FVec Ideal u .f32) (i : Fin a) (j : Fin b) (k : Fin c) :
    Host.reduce FloatOps.maximumf y init h hu (ix3 i j k) = Finset.univ.fold max (init (Shape.Idx.first hu)) fun l : Fin n => y (ix4 i j k l) := by
  pointwise []

/-- The reference's largest score of a row, before the guard. -/
theorem m82 (b : Fin 2) (h : Fin 8) (t : Fin 4096) :
    val_main_v82 (F := Ideal) x0 x1 x2 x3 x4 (ix3 b h t)
      = Finset.univ.fold max ⊥ fun j : Fin 4352 => score x0 x1 x2 x3 x4 C S b.val h.val t.val j.val * (((Real.sqrt 192)⁻¹ : ℝ) : EReal) := by
  unfold val_main_v82
  refine (max_last reducesTo_S2x8x4096x4352_S2x8x4096_d3 h_S_ (val_main_v81 (F := Ideal) x0 x1 x2 x3 x4) (val_main_cst_2 (F := Ideal)) b h t).trans ?_
  rw [val_main_cst_2_apply, Ideal.ofBits_def, neg_inf]
  exact congrArg (fun f => Finset.univ.fold max ⊥ f) (funext fun j => s81 x0 x1 x2 x3 x4 b h t j)

/-- The reference's largest score of a row. -/
theorem m84 (b : Fin 2) (h : Fin 8) (t : Fin 4096) :
    val_main_v84 (F := Ideal) x0 x1 x2 x3 x4 (ix3 b h t)
      = Finset.univ.fold max ⊥ fun j : Fin 4352 => score x0 x1 x2 x3 x4 C S b.val h.val t.val j.val * (((Real.sqrt 192)⁻¹ : ℝ) : EReal) := by
  rw [val_main_v84_apply, m82, val_main_v83_apply, val_main_cst_3_apply, Ideal.ofBits_def, neg_inf]
  exact max_eq_right bot_le

/-- The reference's exponential of a score less the row's largest. -/
theorem e88 (b : Fin 2) (h : Fin 8) (t : Fin 4096) (j : Fin 4352) :
    val_main_v88 (F := Ideal) x0 x1 x2 x3 x4 (ix4 b h t j)
      = Ideal.exp (score x0 x1 x2 x3 x4 C S b.val h.val t.val j.val * (((Real.sqrt 192)⁻¹ : ℝ) : EReal)
        - Finset.univ.fold max ⊥ fun j : Fin 4352 => score x0 x1 x2 x3 x4 C S b.val h.val t.val j.val * (((Real.sqrt 192)⁻¹ : ℝ) : EReal)) := by
  pointwise [val_main_v88, val_main_v87, val_main_v86, val_main_v85, s81, m84]

/-- The reference's weights. -/
theorem p92 (b : Fin 2) (h : Fin 8) (t : Fin 4096) (j : Fin 4352) :
    val_main_v92 (F := Ideal) x0 x1 x2 x3 x4 (ix4 b h t j)
      = Ideal.div (val_main_v88 (F := Ideal) x0 x1 x2 x3 x4 (ix4 b h t j)) (∑ k : Fin 4352, val_main_v88 (F := Ideal) x0 x1 x2 x3 x4 (ix4 b h t k)) := by
  pointwise [val_main_v92, val_main_v91, val_main_v90, val_main_v89, val_main_cst_4]

end Cert.ReferenceIdeal.Ref

end
-- ==== Proof.RefAttn.lean ====
module

public import proofs.«01_k».proof.Proof.RefSoft

@[expose] public section

set_option maxRecDepth 16384

noncomputable section

namespace Cert.ReferenceIdeal.Ref

open Idealize.ShloMosaic Idealize.ShloMosaic.TcCoe Idealize.SL.Sem Idealize.ShloMosaic.Pointwise Cert.ReferenceIdeal Cert.ReferenceIdeal.Gen Cert.ReferenceIdeal.Read Cert.KernelIdeal.Rows Cert.KernelIdeal.Attn Cert.Arr
open scoped BigOperators

variable (x0 : (⟨S2x4096x2048, .f32⟩ : BufTy).Contents (Elt Ideal)) (x1 : (⟨S2x4096x2048, .bf16⟩ : BufTy).Contents (Elt Ideal)) (x2 : (⟨S2x4096x128, .f32⟩ : BufTy).Contents (Elt Ideal)) (x3 : (⟨S2x256x2048, .bf16⟩ : BufTy).Contents (Elt Ideal)) (x4 : (⟨S2x256x64, .f32⟩ : BufTy).Contents (Elt Ideal))

/-- The element is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, rfl⟩

theorem IsReal.sum {n : ℕ} {f : Fin n → EReal} (h : ∀ i, IsReal (f i)) : IsReal (∑ i, f i) := by
  choose g hg using h
  exact ⟨∑ i, g i, by rw [funext hg]; exact Cert.Softmax.coe_sum Finset.univ g⟩

theorem real_at2 {a b : ℕ} {X : (⟨2, ![a, b]⟩ : Shape).Idx → EReal} (h : ∀ i, IsReal (X i)) (i j : ℕ) : IsReal (at2 X i j) := by
  unfold at2
  split_ifs <;> first | exact h _ | exact IsReal.zero

theorem real_at3 {a b d : ℕ} {X : (⟨3, ![a, b, d]⟩ : Shape).Idx → EReal} (h : ∀ i, IsReal (X i)) (i j k : ℕ) : IsReal (at3 X i j k) := by
  unfold at3
  split_ifs <;> first | exact h _ | exact IsReal.zero

theorem real_rope {X C S : ℕ → EReal} (hX : ∀ n, IsReal (X n)) (hC : ∀ n, IsReal (C n)) (hS : ∀ n, IsReal (S n)) (d : ℕ) : IsReal (rope X C S d) := by
  unfold rope
  split_ifs
  · exact ((hX _).mul (hC _)).sub ((hX _).mul (hS _))
  · exact ((hX _).mul (hS _)).add ((hX _).mul (hC _))

theorem real_qr {X C S : ℕ → EReal} (hX : ∀ n, IsReal (X n)) (hC : ∀ n, IsReal (C n)) (hS : ∀ n, IsReal (S n)) (d : ℕ) : IsReal (qr X C S d) := by
  unfold qr
  split_ifs
  · exact hX _
  · exact real_rope (fun n => hX _) hC hS _

theorem IsReal.ofInt {w : ℕ} (b : BitVec w) : IsReal (FloatOps.sitofp (F := Ideal) .f32 b) := ⟨(b.toInt : ℝ), rfl⟩

theorem real_v2 (t : Fin 4096) : IsReal (val_main_v2 (F := Ideal) (ix1 t)) := by
  rw [val_main_v2_apply, val_main_v1_apply]
  exact IsReal.ofInt _

theorem real_v6 (t : Fin 4096) : IsReal (val_main_v6 (F := Ideal) (ix1 t)) := by
  rw [val_main_v6_apply, val_main_v5_apply, val_main_v4_apply]
  exact IsReal.ofInt _

/-- A rotary frequency is a real number. -/
theorem real_freq (x : EReal) (hx : IsReal x) : IsReal (Ideal.pow (Ideal.ofBits FTy.f32 1176256512#32) (Ideal.div (-x) (Ideal.ofBits FTy.f32 1098907648#32))) := by
  obtain ⟨r, rfl⟩ := hx
  have h1 : Ideal.ofBits .f32 1176256512#32 = ((10000 : ℝ) : EReal) := by
    simp [Ideal.ofBits, Ideal.ieee]
    rw [← EReal.coe_mul]
    norm_num
  have h2 : Ideal.ofBits .f32 1098907648#32 = ((16 : ℝ) : EReal) := by
    simp [Ideal.ofBits, Ideal.ieee]
    rw [← EReal.coe_mul]
    norm_num
  rw [h1, h2, Ideal.div_coe (by norm_num), ← EReal.coe_neg, ← EReal.coe_mul, Ideal.pow_coe_coe]
  exact ⟨_, rfl⟩

/-- An angle is a real number: a row or column number times a power of 10000. -/
theorem real_angle (t : Fin 4096) (n : Fin 32) : IsReal (val_main_v23 (F := Ideal) (ix2 t n)) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0]
  split_ifs
  · exact (real_v2 t).mul (real_freq _ (IsReal.ofInt _))
  · exact (real_v6 t).mul (real_freq _ (IsReal.ofInt _))

theorem real_C (i : S4096x32.Idx) : IsReal (C i) := by
  obtain ⟨r, hr⟩ := real_angle (i 0) (i 1)
  have e : i = ix2 (i 0) (i 1) := by
    funext a
    match a with
    | ⟨0, _⟩ => rfl
    | ⟨1, _⟩ => rfl
  refine ⟨Real.cos r, ?_⟩
  rw [C, val_main_v24_apply, show val_main_v23 (F := Ideal) i = r from (congrArg _ e).trans hr]
  rfl

theorem real_S (i : S4096x32.Idx) : IsReal (S i) := by
  obtain ⟨r, hr⟩ := real_angle (i 0) (i 1)
  have e : i = ix2 (i 0) (i 1) := by
    funext a
    match a with
    | ⟨0, _⟩ => rfl
    | ⟨1, _⟩ => rfl
  refine ⟨Real.sin r, ?_⟩
  rw [S, val_main_v25_apply, show val_main_v23 (F := Ideal) i = r from (congrArg _ e).trans hr]
  rfl

variable (h0 : ∀ i, IsReal (x0 i)) (h1 : ∀ i, IsReal (x1 i)) (h2 : ∀ i, IsReal (x2 i)) (h3 : ∀ i, IsReal (x3 i)) (h4 : ∀ i, IsReal (x4 i))

include h0 h1 h2 h3 h4 in
/-- With real arguments every score is real. -/
theorem real_score (b h t j : ℕ) : IsReal (score x0 x1 x2 x3 x4 C S b h t j) := by
  unfold score
  refine IsReal.sum fun d => IsReal.mul ?_ ?_
  · unfold qfull
    exact real_qr (fun n => real_at3 h0 _ _ _) (fun n => real_at2 real_C _ _) (fun n => real_at2 real_S _ _) _
  · unfold kfull
    split_ifs
    · exact real_at3 h1 _ _ _
    · exact real_rope (fun n => real_at3 h2 _ _ _) (fun n => real_at2 real_C _ _) (fun n => real_at2 real_S _ _) _
    · exact real_at3 h3 _ _ _
    · exact real_at3 h4 _ _ _

include h0 h1 h2 h3 h4 in
/-- With real arguments the reference's result is the attention. -/
theorem ref_attn (i : S2x4096x1024.Idx) :
    val_main_v96 (F := Ideal) x0 x1 x2 x3 x4 i = attn x0 x1 x2 x3 x4 C S (i 0).val (i 1).val (i 2).val := by
  have hi0 : (i 0).val < 2 := (i 0).isLt
  have hi1 : (i 1).val < 4096 := (i 1).isLt
  have hi2 : (i 2).val < 1024 := (i 2).isLt
  have ei : idx_main_v94 (idx_main_v95 i) = ix4 (⟨(i 0).val, hi0⟩ : Fin 2) (⟨(i 2).val / 128, by omega⟩ : Fin 8) (⟨(i 2).val % 128, by omega⟩ : Fin 128) (⟨(i 1).val, hi1⟩ : Fin 4096) := by
    funext a
    apply Fin.ext
    match a with
    | ⟨0, _⟩ => show (((i 0).val * 4096 + (i 1).val) * 1024 + (i 2).val) / 4194304 = (i 0).val; omega
    | ⟨1, _⟩ => show (((i 0).val * 4096 + (i 1).val) * 1024 + (i 2).val) / 128 % 8 = (i 2).val / 128; omega
    | ⟨2, _⟩ => show (((i 0).val * 4096 + (i 1).val) * 1024 + (i 2).val) % 128 = (i 2).val % 128; omega
    | ⟨3, _⟩ => show (((i 0).val * 4096 + (i 1).val) * 1024 + (i 2).val) / 1024 % 4096 = (i 1).val; omega
  rw [val_main_v96_apply]
  show val_main_v95 (F := Ideal) x0 x1 x2 x3 x4 i = _
  rw [val_main_v95_apply, val_main_v94_apply, ei, val_main_v93_apply]
  unfold attn att
  rw [Cert.Softmax.softmax_eq (n := 4351) _ _ (fun j => real_score x0 x1 x2 x3 x4 h0 h1 h2 h3 h4 _ _ _ _) _ (by positivity)]
  refine Finset.sum_congr rfl fun k _ => ?_
  have el : lidx_main_v93 (ix4 (⟨(i 0).val, hi0⟩ : Fin 2) (⟨(i 2).val / 128, by omega⟩ : Fin 8) (⟨(i 2).val % 128, by omega⟩ : Fin 128) (⟨(i 1).val, hi1⟩ : Fin 4096)) k
      = ix4 (⟨(i 0).val, hi0⟩ : Fin 2) k (⟨(i 2).val / 128, by omega⟩ : Fin 8) (⟨(i 2).val % 128, by omega⟩ : Fin 128) := by
    funext a
    match a with
    | ⟨0, _⟩ => rfl
    | ⟨1, _⟩ => rfl
    | ⟨2, _⟩ => rfl
    | ⟨3, _⟩ => rfl
  have er : ridx_main_v93 (ix4 (⟨(i 0).val, hi0⟩ : Fin 2) (⟨(i 2).val / 128, by omega⟩ : Fin 8) (⟨(i 2).val % 128, by omega⟩ : Fin 128) (⟨(i 1).val, hi1⟩ : Fin 4096)) k
      = ix4 (⟨(i 0).val, hi0⟩ : Fin 2) (⟨(i 2).val / 128, by omega⟩ : Fin 8) (⟨(i 1).val, hi1⟩ : Fin 4096) k := by
    funext a
    match a with
    | ⟨0, _⟩ => rfl
    | ⟨1, _⟩ => rfl
    | ⟨2, _⟩ => rfl
    | ⟨3, _⟩ => rfl
  rw [el, er, v77, p92]
  simp only [e88]

end Cert.ReferenceIdeal.Ref

end
-- ==== Proof.Inputs.lean ====
module

public import proofs.«01_k».proof.Proof.RefAttn
public import proofs.«01_k».proof.Pre_finite

@[expose] public section

set_option maxRecDepth 16384

noncomputable section

namespace Cert.Inputs

open Idealize.ShloMosaic Idealize.ShloMosaic.TcCoe Idealize.SL.Sem Idealize.ShloMosaic.Pointwise Cert.Pre_finite Cert.ReferenceIdeal.Ref

/-- A number whose magnitude compares below infinity is real. -/
theorem real_of_abs (x : EReal) (h : BitVec.ofBool (decide (FloatOps.absf (F := Ideal) (φ := .f32) x < Ideal.ofBits FTy.f32 2139095040#32)) = 1#1) : IsReal x := by
  have h2 : Ideal.ofBits .f32 2139095040#32 = ⊤ := by simp [Ideal.ofBits, Ideal.ieee]
  rw [h2] at h
  by_cases hx : FloatOps.absf (F := Ideal) (φ := .f32) x < ⊤
  · change max x (-x) < ⊤ at hx
    induction x with
    | bot => simp at hx
    | top => simp at hx
    | coe r => exact ⟨r, rfl⟩
  · rw [decide_eq_false hx] at h
    exact absurd h (by decide)

variable (x0 : FVec Ideal S2x4096x2048 .f32) (x1 : FVec Ideal S2x4096x2048 .bf16) (x2 : FVec Ideal S2x4096x128 .f32) (x3 : FVec Ideal S2x256x2048 .bf16) (x4 : FVec Ideal S2x256x64 .f32)

/-- Where the precondition's first component holds, the queries are real. -/
theorem real0 [Facts] (i : S2x4096x2048.Idx) (h : (fn (F := Ideal) x0 x1 x2 x3 x4).1 i = 1#1) : IsReal (x0 i) := by
  unfold fn at h
  dsimp only at h
  revert h
  pointwise []
  exact real_of_abs _

/-- Where its second component holds, the keys and values are real. -/
theorem real1 [Facts] (i : S2x4096x2048.Idx) (h : (fn (F := Ideal) x0 x1 x2 x3 x4).2.1 i = 1#1) : IsReal (x1 i) := by
  unfold fn at h
  dsimp only at h
  revert h
  pointwise []
  exact real_of_abs _

/-- Where its third component holds, the rotary keys are real. -/
theorem real2 [Facts] (i : S2x4096x128.Idx) (h : (fn (F := Ideal) x0 x1 x2 x3 x4).2.2.1 i = 1#1) : IsReal (x2 i) := by
  unfold fn at h
  dsimp only at h
  revert h
  pointwise []
  exact real_of_abs _

/-- Where its fourth component holds, the cached keys and values are real. -/
theorem real3 [Facts] (i : S2x256x2048.Idx) (h : (fn (F := Ideal) x0 x1 x2 x3 x4).2.2.2.1 i = 1#1) : IsReal (x3 i) := by
  unfold fn at h
  dsimp only at h
  revert h
  pointwise []
  exact real_of_abs _

/-- Where its fifth component holds, the cached rotary keys are real. -/
theorem real4 [Facts] (i : S2x256x64.Idx) (h : (fn (F := Ideal) x0 x1 x2 x3 x4).2.2.2.2 i = 1#1) : IsReal (x4 i) := by
  unfold fn at h
  dsimp only at h
  revert h
  pointwise []
  exact real_of_abs _

variable (m : (ℓ : Loc Cert.KernelIdeal.nD Cert.KernelIdeal.τ Cert.KernelIdeal.sig) → Buf (Elt Ideal) ℓ) (c : Dev Cert.KernelIdeal.nD)

/-- The kernel's table of cosines is the reference's. -/
theorem tab_C : Cert.KernelIdeal.Gen.V m c Cert.KernelIdeal.main_v24 = C := by
  unfold Cert.KernelIdeal.Gen.V
  after_results
  rfl

/-- The kernel's table of sines is the reference's. -/
theorem tab_S : Cert.KernelIdeal.Gen.V m c Cert.KernelIdeal.main_v25 = S := by
  unfold Cert.KernelIdeal.Gen.V
  after_results
  rfl

end Cert.Inputs

end
-- ==== Proof.AttnClaims.lean ====
module

public import proofs.«01_k».proof.Defs
public import proofs.«01_k».proof.Proof.Inputs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import Idealize.ShloMosaic.Lib.Quiescent

/-! # The claims about the attention call -/

@[expose] public section

set_option maxRecDepth 16384

noncomputable section

namespace Cert.AttnClaims

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_finite : Cert.quiescent_ReferenceIdeal_pre_finite := fun m ρ _ => frame_ri m ρ trivial

/-- The named constant is the value the certificate's table gives its name. -/
theorem preserves : Cert.preserves_Kernel_KernelIdeal :=
  IdealRules.named_const.statement Cert.KernelIdeal.κ "score_log2" .f32 0x3DD53B95#32 (((Real.log 2)⁻¹ * (Real.sqrt 192)⁻¹ : ℝ) : EReal) rfl

/-- On finite arguments the kernel's result and the reference's are one array, the attention of the arguments. -/
theorem algebraic : Cert.algebraic_KernelIdeal_ReferenceIdeal_pre_finite := by
  intro m ρ m' ρ' hpre hag
  refine ⟨fun c => Cert.KernelIdeal.Attn.G m c, ?_, ?_⟩
  · exact (θ_run Cert.KernelIdeal.defs _ _).mono
      (fun r h c => ⟨(h c).1.trans (Cert.KernelIdeal.Attn.final_o m c), (h c).2⟩) (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4⟩ := hag c
    obtain ⟨p0, p1, p2, p3, p4⟩ := hpre c
    rw [Cert.ReferenceIdeal.Read.val_main_v96_eq, e0, e1, e2, e3, e4]
    funext i
    rw [Cert.ReferenceIdeal.Ref.ref_attn _ _ _ _ _ (fun i => Cert.Inputs.real0 _ _ _ _ _ i (congrFun p0 i))
      (fun i => Cert.Inputs.real1 _ _ _ _ _ i (congrFun p1 i)) (fun i => Cert.Inputs.real2 _ _ _ _ _ i (congrFun p2 i))
      (fun i => Cert.Inputs.real3 _ _ _ _ _ i (congrFun p3 i)) (fun i => Cert.Inputs.real4 _ _ _ _ _ i (congrFun p4 i))]
    unfold Cert.KernelIdeal.Attn.G
    beta_reduce
    rw [Cert.Inputs.tab_C m c, Cert.Inputs.tab_S m c, Cert.KernelIdeal.Gen.V_main_arg0, Cert.KernelIdeal.Gen.V_main_arg1,
      Cert.KernelIdeal.Gen.V_main_arg2, Cert.KernelIdeal.Gen.V_main_arg3, Cert.KernelIdeal.Gen.V_main_arg4]

end Cert.AttnClaims

end
-- ==== Proof.FfnDefs.lean ====
module

public import proofs.«01_k».proof.Proof.Gen.FfnIdeal.Frame
public import proofs.«01_k».proof.Proof.Gen.FfnIdeal.Skeleton
public import Idealize.ShloMosaic.Lib.VecWindow
public import Idealize.ShloMosaic.Lib.Pipeline.ValueKit.Acc

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers that the body is called with: the fifteen inputs' blocks, the output's block and the ten scratch buffers
    (the normed rows `h` and the halo's `hh`; two slots, each for the two up-projections and their halo rows). -/
structure Refs where
  xp : Memref sig .tc .vmem S8x2048 .f32
  xpW : xp.IsWhole
  xn : Memref sig .tc .vmem S8x2048 .f32
  xnW : xn.IsWhole
  g : Memref sig .tc .vmem S1x2048 .f32
  gW : g.IsWhole
  sh : Memref sig .tc .vmem S1x1x2048 .f32
  shW : sh.IsWhole
  sc : Memref sig .tc .vmem S1x1x2048 .f32
  scW : sc.IsWhole
  gate : Memref sig .tc .vmem S1x1x2048 .f32
  gateW : gate.IsWhole
  wa : Memref sig .tc .vmem S2048x256 .bf16
  waW : wa.IsWhole
  wg : Memref sig .tc .vmem S2048x256 .bf16
  wgW : wg.IsWhole
  cwa : Memref sig .tc .vmem S3x256 .f32
  cwaW : cwa.IsWhole
  cwg : Memref sig .tc .vmem S3x256 .f32
  cwgW : cwg.IsWhole
  cba : Memref sig .tc .vmem S1x256 .f32
  cbaW : cba.IsWhole
  cbg : Memref sig .tc .vmem S1x256 .f32
  cbgW : cbg.IsWhole
  wd : Memref sig .tc .vmem S256x2048 .bf16
  wdW : wd.IsWhole
  fg : Memref sig .tc .vmem S1x2048 .f32
  fgW : fg.IsWhole
  x : Memref sig .tc .vmem S1024x2048 .f32
  xW : x.IsWhole
  o : Memref sig .tc .vmem S1024x2048 .f32
  oW : o.IsWhole
  h : Memref sig .tc .vmem S1024x2048 .bf16
  hW : h.IsWhole
  hh : Memref sig .tc .vmem S16x2048 .bf16
  hhW : hh.IsWhole
  ua0 : Memref sig .tc .vmem S1024x256 .f32
  ua0W : ua0.IsWhole
  ug0 : Memref sig .tc .vmem S1024x256 .f32
  ug0W : ug0.IsWhole
  ha0 : Memref sig .tc .vmem S16x256 .f32
  ha0W : ha0.IsWhole
  hg0 : Memref sig .tc .vmem S16x256 .f32
  hg0W : hg0.IsWhole
  ua1 : Memref sig .tc .vmem S1024x256 .f32
  ua1W : ua1.IsWhole
  ug1 : Memref sig .tc .vmem S1024x256 .f32
  ug1W : ug1.IsWhole
  ha1 : Memref sig .tc .vmem S16x256 .f32
  ha1W : ha1.IsWhole
  hg1 : Memref sig .tc .vmem S16x256 .f32
  hg1W : hg1.IsWhole

/-- What the fifteen input blocks hold. -/
structure Blocks (F : FTy → Type) where
  xp : Vec F S8x2048 .f32
  xn : Vec F S8x2048 .f32
  g : Vec F S1x2048 .f32
  sh : Vec F S1x1x2048 .f32
  sc : Vec F S1x1x2048 .f32
  gate : Vec F S1x1x2048 .f32
  wa : Vec F S2048x256 .bf16
  wg : Vec F S2048x256 .bf16
  cwa : Vec F S3x256 .f32
  cwg : Vec F S3x256 .f32
  cba : Vec F S1x256 .f32
  cbg : Vec F S1x256 .f32
  wd : Vec F S256x2048 .bf16
  fg : Vec F S1x2048 .f32
  x : Vec F S1024x2048 .f32

/-- What one slot holds: the rows of the two up-projections of one tile of features, and those of the halo. -/
structure Up (F : FTy → Type) where
  ua : Vec F S1024x256 .f32
  ug : Vec F S1024x256 .f32
  ha : Vec F S16x256 .f32
  hg : Vec F S16x256 .f32

/-- The rows normed, scaled and shifted, in the products' type. -/
def H (X : Blocks F) : Vec F S1024x2048 .bf16 :=
  k0_pay13 (k0_pay10 X.x X.g) (k0_pay11 X.sc) k0_pay12 X.sh

/-- The same of the eight rows before and the eight rows after the block. -/
def HH (X : Blocks F) : Vec F S16x2048 .bf16 :=
  k0_pay1 (k0_pay16 X.xp (k0_pay14 X.g) (k0_pay15 X.xp) (Scalar.ofBits .f32 0x3A000000#32) X.sc X.sh) X.xn (k0_pay17 X.g)
    (k0_pay18 X.xn) (k0_pay19 X.xn) X.sc X.sh

/-- The up-projections of one tile of features. -/
def up (h : Vec F S1024x2048 .bf16) (hh : Vec F S16x2048 .bf16) (wa wg : Vec F S2048x256 .bf16) : Up F :=
  ⟨k0_pay3 h wa, k0_pay4 h wg, k0_pay5 hh wa, k0_pay6 hh wg⟩

/-- The output after one tile of features: the accumulator `o` plus the tile's gated convolutions times the down-projection. -/
def down (i : grid0.Coords) (X : Blocks F) (U : Up F) (o : Vec F S1024x2048 .f32) : Vec F S1024x2048 .f32 :=
  let arg0 : BitVec 32 := BitVec.ofNat 32 (i 0).val
  let v48 : IVec S1024x1 32 := iota .tc S1024x1 32 [0] iota_S1024x1_d0_w32
  let v51 := k0_pay24 arg0
  let v67 := k0_pay25 v51 4096#32
  k0_pay7 v67 (k0_pay28 v67 U.ua X.cwa (k0_pay26 v48 v51 4096#32 U.ua U.ha) (k0_pay27 v48 U.ua U.ha) X.cba) U.ug X.cwg
    (k0_pay29 v48 v67 U.ug U.hg) (k0_pay30 U.hg) (k0_pay31 U.ug) (k0_pay32 v48) X.cbg o X.wd

/-- The last step's output from the finished accumulator: the gated residual sum, normed. -/
def final (X : Blocks F) (o : Vec F S1024x2048 .f32) : Vec F S1024x2048 .f32 :=
  k0_pay9 (k0_pay53 X.x X.gate o) (k0_pay54 X.fg) (k0_pay55 X.x X.gate o)

/-- `scf.if` 0's condition on the grid. -/
abbrev cond0 (i : grid0.Coords) : Prop := k0_cond1 i = 1#1
/-- `scf.if` 1's condition on the grid. -/
abbrev cond1 (i : grid0.Coords) : Prop :=
  Scalar.cmpi .ne (Scalar.extui (Scalar.cmpi .eq (BitVec.ofNat 32 (i 1).val) 0#32) : BitVec 32) 0#32 = 1#1
/-- `scf.if` 2's condition on the grid. -/
abbrev cond2 (i : grid0.Coords) : Prop := k0_cond3 i = 1#1
/-- `scf.if` 3's condition on the grid. -/
abbrev cond3 (i : grid0.Coords) : Prop := k0_cond4 i = 1#1
/-- `scf.if` 4's condition on the grid. -/
abbrev cond4 (i : grid0.Coords) : Prop := k0_cond5 i = 1#1

/-- The body on a family of buffers. -/
abbrev bodyOn (i : grid0.Coords) (R : Refs) :=
  cc0_conv_ffn (F := F) i R.xp R.xpW R.xn R.xnW R.g R.gW R.sh R.shW R.sc R.scW R.gate R.gateW R.wa R.waW R.wg R.wgW R.cwa R.cwaW R.cwg R.cwgW R.cba R.cbaW R.cbg R.cbgW R.wd R.wdW R.fg R.fgW R.x R.xW R.o R.oW R.h R.hW R.hh R.hhW R.ua0 R.ua0W R.ug0 R.ug0W R.ha0 R.ha0W R.hg0 R.hg0W R.ua1 R.ua1W R.ug1 R.ug1W R.ha1 R.ha1W R.hg1 R.hg1W

/-- The fifteen inputs' buffers hold the blocks `X`. -/
def insOwn (c : Dev nD) (R : Refs) (X : Blocks F) : sProp 𝕄 :=
  iprop(owns (c : Thread nD τ) R.xp fullShare X.xp ∗ owns (c : Thread nD τ) R.xn fullShare X.xn ∗ owns (c : Thread nD τ) R.g fullShare X.g ∗ owns (c : Thread nD τ) R.sh fullShare X.sh ∗ owns (c : Thread nD τ) R.sc fullShare X.sc ∗ owns (c : Thread nD τ) R.gate fullShare X.gate ∗ owns (c : Thread nD τ) R.wa fullShare X.wa ∗ owns (c : Thread nD τ) R.wg fullShare X.wg ∗ owns (c : Thread nD τ) R.cwa fullShare X.cwa ∗ owns (c : Thread nD τ) R.cwg fullShare X.cwg ∗ owns (c : Thread nD τ) R.cba fullShare X.cba ∗ owns (c : Thread nD τ) R.cbg fullShare X.cbg ∗ owns (c : Thread nD τ) R.wd fullShare X.wd ∗ owns (c : Thread nD τ) R.fg fullShare X.fg ∗ owns (c : Thread nD τ) R.x fullShare X.x)

/-- Slot 0 holds `U`. -/
def slot0 (c : Dev nD) (R : Refs) (U : Up F) : sProp 𝕄 :=
  iprop(owns (c : Thread nD τ) R.ua0 fullShare U.ua ∗ owns (c : Thread nD τ) R.ug0 fullShare U.ug ∗ owns (c : Thread nD τ) R.ha0 fullShare U.ha ∗ owns (c : Thread nD τ) R.hg0 fullShare U.hg)

/-- Slot 0 holds anything. -/
def slot0Any (c : Dev nD) (R : Refs) : sProp 𝕄 :=
  iprop((∃ d, owns (c : Thread nD τ) R.ua0 fullShare d) ∗ (∃ d, owns (c : Thread nD τ) R.ug0 fullShare d) ∗ (∃ d, owns (c : Thread nD τ) R.ha0 fullShare d) ∗ (∃ d, owns (c : Thread nD τ) R.hg0 fullShare d))

/-- Slot 1 holds `U`. -/
def slot1 (c : Dev nD) (R : Refs) (U : Up F) : sProp 𝕄 :=
  iprop(owns (c : Thread nD τ) R.ua1 fullShare U.ua ∗ owns (c : Thread nD τ) R.ug1 fullShare U.ug ∗ owns (c : Thread nD τ) R.ha1 fullShare U.ha ∗ owns (c : Thread nD τ) R.hg1 fullShare U.hg)

/-- Slot 1 holds anything. -/
def slot1Any (c : Dev nD) (R : Refs) : sProp 𝕄 :=
  iprop((∃ d, owns (c : Thread nD τ) R.ua1 fullShare d) ∗ (∃ d, owns (c : Thread nD τ) R.ug1 fullShare d) ∗ (∃ d, owns (c : Thread nD τ) R.ha1 fullShare d) ∗ (∃ d, owns (c : Thread nD τ) R.hg1 fullShare d))

end Cert.FfnIdeal.Hand
-- ==== Proof.FfnRunA.lean ====
module

public import proofs.«01_k».proof.Proof.FfnDefs

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- A block's first step: it norms the rows, clears the accumulator and projects the first tile into slot 0. -/
theorem runA (c : Dev nD) (i : grid0.Coords) (R : Refs) (X : Blocks F)
    (hc0 : cond0 i)
    (hc1 : cond1 i)
    (hc2 : ¬cond2 i)
    (hc3 : ¬cond3 i)
    (hc4 : ¬cond4 i)
    (E : Set ℕ) (K : PUnit → sProp 𝕄) :
    iprop(insOwn c R X ∗ (∃ d, owns (c : Thread nD τ) R.o fullShare d) ∗ (∃ d, owns (c : Thread nD τ) R.h fullShare d) ∗ (∃ d, owns (c : Thread nD τ) R.hh fullShare d) ∗ slot0Any c R
        ∗ (iprop(insOwn c R X ∗ owns (c : Thread nD τ) R.o fullShare k0_pay2 ∗ owns (c : Thread nD τ) R.h fullShare (H X) ∗ owns (c : Thread nD τ) R.hh fullShare (HH X) ∗ slot0 c R (up (H X) (HH X) X.wa X.wg)) -∗ K ⟨⟩))
      ⊢ wp frame (wpE (defs₀ (F := F)) Variants.none c none) E (bodyOn i R) K := by
  obtain ⟨xp, xpW, xn, xnW, g, gW, sh, shW, sc, scW, gate, gateW, wa, waW, wg, wgW, cwa, cwaW, cwg, cwgW, cba, cbaW, cbg, cbgW, wd, wdW, fg, fgW, x, xW, o, oW, h, hW, hh, hhW, ua0, ua0W, ug0, ug0W, ha0, ha0W, hg0, hg0W, ua1, ua1W, ug1, ug1W, ha1, ha1W, hg1, hg1W⟩ := R
  dsimp only [insOwn, slot0, slot1, slot0Any, slot1Any, bodyOn]
  simp only [cc0_conv_ffn_eq_skeleton]; unfold cc0_conv_ffn_skel
  simp only [k0_part1_eq_skeleton, k0_part2_eq_skeleton, k0_part3_eq_skeleton]
  unfold owns
  iintro ⟨⟨⟨%f_xp, %e_xp, H_xp⟩, ⟨%f_xn, %e_xn, H_xn⟩, ⟨%f_g, %e_g, H_g⟩, ⟨%f_sh, %e_sh, H_sh⟩, ⟨%f_sc, %e_sc, H_sc⟩, ⟨%f_gate, %e_gate, H_gate⟩, ⟨%f_wa, %e_wa, H_wa⟩, ⟨%f_wg, %e_wg, H_wg⟩, ⟨%f_cwa, %e_cwa, H_cwa⟩, ⟨%f_cwg, %e_cwg, H_cwg⟩, ⟨%f_cba, %e_cba, H_cba⟩, ⟨%f_cbg, %e_cbg, H_cbg⟩, ⟨%f_wd, %e_wd, H_wd⟩, ⟨%f_fg, %e_fg, H_fg⟩, ⟨%f_x, %e_x, H_x⟩⟩, ⟨%d_o, %f_o, %e_o, H_o⟩, ⟨%d_h, %f_h, %e_h, H_h⟩, ⟨%d_hh, %f_hh, %e_hh, H_hh⟩, ⟨⟨%d_ua0, %f_ua0, %e_ua0, H_ua0⟩, ⟨%d_ug0, %f_ug0, %e_ug0, H_ug0⟩, ⟨%d_ha0, %f_ha0, %e_ha0, H_ha0⟩, ⟨%d_hg0, %f_hg0, %e_hg0, H_hg0⟩⟩, Hk⟩
  obtain rfl := xpW.eq_unread e_xp
  obtain rfl := xnW.eq_unread e_xn
  obtain rfl := gW.eq_unread e_g
  obtain rfl := shW.eq_unread e_sh
  obtain rfl := scW.eq_unread e_sc
  obtain rfl := gateW.eq_unread e_gate
  obtain rfl := waW.eq_unread e_wa
  obtain rfl := wgW.eq_unread e_wg
  obtain rfl := cwaW.eq_unread e_cwa
  obtain rfl := cwgW.eq_unread e_cwg
  obtain rfl := cbaW.eq_unread e_cba
  obtain rfl := cbgW.eq_unread e_cbg
  obtain rfl := wdW.eq_unread e_wd
  obtain rfl := fgW.eq_unread e_fg
  obtain rfl := xW.eq_unread e_x
  sl_exec (disch := first | sl_exact hc0 | sl_exact hc1 | sl_exact hc2 | sl_exact hc3 | sl_exact hc4)
  sl_step
  iapply Hk
  isplitl [H_xp H_xn H_g H_sh H_sc H_gate H_wa H_wg H_cwa H_cwg H_cba H_cbg H_wd H_fg H_x]
  · isplitl [H_xp]
    · iexists _; isplitr; · ipureintro; exact xpW.read_unread _
      iexact H_xp
    isplitl [H_xn]
    · iexists _; isplitr; · ipureintro; exact xnW.read_unread _
      iexact H_xn
    isplitl [H_g]
    · iexists _; isplitr; · ipureintro; exact gW.read_unread _
      iexact H_g
    isplitl [H_sh]
    · iexists _; isplitr; · ipureintro; exact shW.read_unread _
      iexact H_sh
    isplitl [H_sc]
    · iexists _; isplitr; · ipureintro; exact scW.read_unread _
      iexact H_sc
    isplitl [H_gate]
    · iexists _; isplitr; · ipureintro; exact gateW.read_unread _
      iexact H_gate
    isplitl [H_wa]
    · iexists _; isplitr; · ipureintro; exact waW.read_unread _
      iexact H_wa
    isplitl [H_wg]
    · iexists _; isplitr; · ipureintro; exact wgW.read_unread _
      iexact H_wg
    isplitl [H_cwa]
    · iexists _; isplitr; · ipureintro; exact cwaW.read_unread _
      iexact H_cwa
    isplitl [H_cwg]
    · iexists _; isplitr; · ipureintro; exact cwgW.read_unread _
      iexact H_cwg
    isplitl [H_cba]
    · iexists _; isplitr; · ipureintro; exact cbaW.read_unread _
      iexact H_cba
    isplitl [H_cbg]
    · iexists _; isplitr; · ipureintro; exact cbgW.read_unread _
      iexact H_cbg
    isplitl [H_wd]
    · iexists _; isplitr; · ipureintro; exact wdW.read_unread _
      iexact H_wd
    isplitl [H_fg]
    · iexists _; isplitr; · ipureintro; exact fgW.read_unread _
      iexact H_fg
    iexists _; isplitr; · ipureintro; exact xW.read_unread _
    iexact H_x
  isplitl [H_o]
  · iexists _; isplitr; swap; · iexact H_o
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_h]
  · iexists _; isplitr; swap; · iexact H_h
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_hh]
  · iexists _; isplitr; swap; · iexact H_hh
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ua0]
  · iexists _; isplitr; swap; · iexact H_ua0
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ug0]
  · iexists _; isplitr; swap; · iexact H_ug0
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ha0]
  · iexists _; isplitr; swap; · iexact H_ha0
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  iexists _; isplitr; swap; · iexact H_hg0
  ipureintro
  refine (View.read_writes_full _ _ _ _ _).trans ?_
  try sl_unfold_run_names
  try simp (disch := decide) only [View.ld_unit_lit', View.readCov_unit_lit', View.readCov_cons_unit_lit', View.readAt_eq_ld, Memref.IsWhole.read_unread]
  try rfl

end Cert.FfnIdeal.Hand
-- ==== Proof.FfnRunB.lean ====
module

public import proofs.«01_k».proof.Proof.FfnDefs

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- A middle step: it projects its tile into slot 1 and adds the tile of slot 0 to the accumulator. -/
theorem runB (c : Dev nD) (i : grid0.Coords) (R : Refs) (X : Blocks F) (h : Vec F S1024x2048 .bf16) (hh : Vec F S16x2048 .bf16) (U : Up F) (o : Vec F S1024x2048 .f32)
    (hc0 : ¬cond0 i)
    (hc1 : ¬cond1 i)
    (hc2 : cond2 i)
    (hc3 : ¬cond3 i)
    (hc4 : ¬cond4 i)
    (E : Set ℕ) (K : PUnit → sProp 𝕄) :
    iprop(insOwn c R X ∗ owns (c : Thread nD τ) R.o fullShare o ∗ owns (c : Thread nD τ) R.h fullShare h ∗ owns (c : Thread nD τ) R.hh fullShare hh ∗ slot0 c R U ∗ slot1Any c R
        ∗ (iprop(insOwn c R X ∗ owns (c : Thread nD τ) R.o fullShare (down i X U o) ∗ owns (c : Thread nD τ) R.h fullShare h ∗ owns (c : Thread nD τ) R.hh fullShare hh ∗ slot0 c R U ∗ slot1 c R (up h hh X.wa X.wg)) -∗ K ⟨⟩))
      ⊢ wp frame (wpE (defs₀ (F := F)) Variants.none c none) E (bodyOn i R) K := by
  obtain ⟨xp, xpW, xn, xnW, g, gW, sh, shW, sc, scW, gate, gateW, wa, waW, wg, wgW, cwa, cwaW, cwg, cwgW, cba, cbaW, cbg, cbgW, wd, wdW, fg, fgW, x, xW, o, oW, h, hW, hh, hhW, ua0, ua0W, ug0, ug0W, ha0, ha0W, hg0, hg0W, ua1, ua1W, ug1, ug1W, ha1, ha1W, hg1, hg1W⟩ := R
  dsimp only [insOwn, slot0, slot1, slot0Any, slot1Any, bodyOn]
  simp only [cc0_conv_ffn_eq_skeleton]; unfold cc0_conv_ffn_skel
  simp only [k0_part4_eq_skeleton, k0_part5_eq_skeleton, k0_part6_eq_skeleton]
  unfold owns
  iintro ⟨⟨⟨%f_xp, %e_xp, H_xp⟩, ⟨%f_xn, %e_xn, H_xn⟩, ⟨%f_g, %e_g, H_g⟩, ⟨%f_sh, %e_sh, H_sh⟩, ⟨%f_sc, %e_sc, H_sc⟩, ⟨%f_gate, %e_gate, H_gate⟩, ⟨%f_wa, %e_wa, H_wa⟩, ⟨%f_wg, %e_wg, H_wg⟩, ⟨%f_cwa, %e_cwa, H_cwa⟩, ⟨%f_cwg, %e_cwg, H_cwg⟩, ⟨%f_cba, %e_cba, H_cba⟩, ⟨%f_cbg, %e_cbg, H_cbg⟩, ⟨%f_wd, %e_wd, H_wd⟩, ⟨%f_fg, %e_fg, H_fg⟩, ⟨%f_x, %e_x, H_x⟩⟩, ⟨%f_o, %e_o, H_o⟩, ⟨%f_h, %e_h, H_h⟩, ⟨%f_hh, %e_hh, H_hh⟩, ⟨⟨%f_ua0, %e_ua0, H_ua0⟩, ⟨%f_ug0, %e_ug0, H_ug0⟩, ⟨%f_ha0, %e_ha0, H_ha0⟩, ⟨%f_hg0, %e_hg0, H_hg0⟩⟩, ⟨⟨%d_ua1, %f_ua1, %e_ua1, H_ua1⟩, ⟨%d_ug1, %f_ug1, %e_ug1, H_ug1⟩, ⟨%d_ha1, %f_ha1, %e_ha1, H_ha1⟩, ⟨%d_hg1, %f_hg1, %e_hg1, H_hg1⟩⟩, Hk⟩
  obtain rfl := xpW.eq_unread e_xp
  obtain rfl := xnW.eq_unread e_xn
  obtain rfl := gW.eq_unread e_g
  obtain rfl := shW.eq_unread e_sh
  obtain rfl := scW.eq_unread e_sc
  obtain rfl := gateW.eq_unread e_gate
  obtain rfl := waW.eq_unread e_wa
  obtain rfl := wgW.eq_unread e_wg
  obtain rfl := cwaW.eq_unread e_cwa
  obtain rfl := cwgW.eq_unread e_cwg
  obtain rfl := cbaW.eq_unread e_cba
  obtain rfl := cbgW.eq_unread e_cbg
  obtain rfl := wdW.eq_unread e_wd
  obtain rfl := fgW.eq_unread e_fg
  obtain rfl := xW.eq_unread e_x
  obtain rfl := oW.eq_unread e_o
  obtain rfl := hW.eq_unread e_h
  obtain rfl := hhW.eq_unread e_hh
  obtain rfl := ua0W.eq_unread e_ua0
  obtain rfl := ug0W.eq_unread e_ug0
  obtain rfl := ha0W.eq_unread e_ha0
  obtain rfl := hg0W.eq_unread e_hg0
  sl_exec (disch := first | sl_exact hc0 | sl_exact hc1 | sl_exact hc2 | sl_exact hc3 | sl_exact hc4)
  sl_step
  iapply Hk
  isplitl [H_xp H_xn H_g H_sh H_sc H_gate H_wa H_wg H_cwa H_cwg H_cba H_cbg H_wd H_fg H_x]
  · isplitl [H_xp]
    · iexists _; isplitr; · ipureintro; exact xpW.read_unread _
      iexact H_xp
    isplitl [H_xn]
    · iexists _; isplitr; · ipureintro; exact xnW.read_unread _
      iexact H_xn
    isplitl [H_g]
    · iexists _; isplitr; · ipureintro; exact gW.read_unread _
      iexact H_g
    isplitl [H_sh]
    · iexists _; isplitr; · ipureintro; exact shW.read_unread _
      iexact H_sh
    isplitl [H_sc]
    · iexists _; isplitr; · ipureintro; exact scW.read_unread _
      iexact H_sc
    isplitl [H_gate]
    · iexists _; isplitr; · ipureintro; exact gateW.read_unread _
      iexact H_gate
    isplitl [H_wa]
    · iexists _; isplitr; · ipureintro; exact waW.read_unread _
      iexact H_wa
    isplitl [H_wg]
    · iexists _; isplitr; · ipureintro; exact wgW.read_unread _
      iexact H_wg
    isplitl [H_cwa]
    · iexists _; isplitr; · ipureintro; exact cwaW.read_unread _
      iexact H_cwa
    isplitl [H_cwg]
    · iexists _; isplitr; · ipureintro; exact cwgW.read_unread _
      iexact H_cwg
    isplitl [H_cba]
    · iexists _; isplitr; · ipureintro; exact cbaW.read_unread _
      iexact H_cba
    isplitl [H_cbg]
    · iexists _; isplitr; · ipureintro; exact cbgW.read_unread _
      iexact H_cbg
    isplitl [H_wd]
    · iexists _; isplitr; · ipureintro; exact wdW.read_unread _
      iexact H_wd
    isplitl [H_fg]
    · iexists _; isplitr; · ipureintro; exact fgW.read_unread _
      iexact H_fg
    iexists _; isplitr; · ipureintro; exact xW.read_unread _
    iexact H_x
  isplitl [H_o]
  · iexists _; isplitr; swap; · iexact H_o
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_h]
  · iexists _; isplitr; · ipureintro; exact hW.read_unread _
    iexact H_h
  isplitl [H_hh]
  · iexists _; isplitr; · ipureintro; exact hhW.read_unread _
    iexact H_hh
  isplitl [H_ua0 H_ug0 H_ha0 H_hg0]
  · isplitl [H_ua0]
    · iexists _; isplitr; · ipureintro; exact ua0W.read_unread _
      iexact H_ua0
    isplitl [H_ug0]
    · iexists _; isplitr; · ipureintro; exact ug0W.read_unread _
      iexact H_ug0
    isplitl [H_ha0]
    · iexists _; isplitr; · ipureintro; exact ha0W.read_unread _
      iexact H_ha0
    iexists _; isplitr; · ipureintro; exact hg0W.read_unread _
    iexact H_hg0
  isplitl [H_ua1]
  · iexists _; isplitr; swap; · iexact H_ua1
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ug1]
  · iexists _; isplitr; swap; · iexact H_ug1
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ha1]
  · iexists _; isplitr; swap; · iexact H_ha1
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  iexists _; isplitr; swap; · iexact H_hg1
  ipureintro
  refine (View.read_writes_full _ _ _ _ _).trans ?_
  try sl_unfold_run_names
  try simp (disch := decide) only [View.ld_unit_lit', View.readCov_unit_lit', View.readCov_cons_unit_lit', View.readAt_eq_ld, Memref.IsWhole.read_unread]
  try rfl

end Cert.FfnIdeal.Hand
-- ==== Proof.FfnRunC.lean ====
module

public import proofs.«01_k».proof.Proof.FfnDefs

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- A middle step: it projects its tile into slot 0 and adds the tile of slot 1 to the accumulator. -/
theorem runC (c : Dev nD) (i : grid0.Coords) (R : Refs) (X : Blocks F) (h : Vec F S1024x2048 .bf16) (hh : Vec F S16x2048 .bf16) (U : Up F) (o : Vec F S1024x2048 .f32)
    (hc0 : ¬cond0 i)
    (hc1 : ¬cond1 i)
    (hc2 : ¬cond2 i)
    (hc3 : cond3 i)
    (hc4 : ¬cond4 i)
    (E : Set ℕ) (K : PUnit → sProp 𝕄) :
    iprop(insOwn c R X ∗ owns (c : Thread nD τ) R.o fullShare o ∗ owns (c : Thread nD τ) R.h fullShare h ∗ owns (c : Thread nD τ) R.hh fullShare hh ∗ slot1 c R U ∗ slot0Any c R
        ∗ (iprop(insOwn c R X ∗ owns (c : Thread nD τ) R.o fullShare (down i X U o) ∗ owns (c : Thread nD τ) R.h fullShare h ∗ owns (c : Thread nD τ) R.hh fullShare hh ∗ slot1 c R U ∗ slot0 c R (up h hh X.wa X.wg)) -∗ K ⟨⟩))
      ⊢ wp frame (wpE (defs₀ (F := F)) Variants.none c none) E (bodyOn i R) K := by
  obtain ⟨xp, xpW, xn, xnW, g, gW, sh, shW, sc, scW, gate, gateW, wa, waW, wg, wgW, cwa, cwaW, cwg, cwgW, cba, cbaW, cbg, cbgW, wd, wdW, fg, fgW, x, xW, o, oW, h, hW, hh, hhW, ua0, ua0W, ug0, ug0W, ha0, ha0W, hg0, hg0W, ua1, ua1W, ug1, ug1W, ha1, ha1W, hg1, hg1W⟩ := R
  dsimp only [insOwn, slot0, slot1, slot0Any, slot1Any, bodyOn]
  simp only [cc0_conv_ffn_eq_skeleton]; unfold cc0_conv_ffn_skel
  simp only [k0_part7_eq_skeleton, k0_part8_eq_skeleton, k0_part9_eq_skeleton]
  unfold owns
  iintro ⟨⟨⟨%f_xp, %e_xp, H_xp⟩, ⟨%f_xn, %e_xn, H_xn⟩, ⟨%f_g, %e_g, H_g⟩, ⟨%f_sh, %e_sh, H_sh⟩, ⟨%f_sc, %e_sc, H_sc⟩, ⟨%f_gate, %e_gate, H_gate⟩, ⟨%f_wa, %e_wa, H_wa⟩, ⟨%f_wg, %e_wg, H_wg⟩, ⟨%f_cwa, %e_cwa, H_cwa⟩, ⟨%f_cwg, %e_cwg, H_cwg⟩, ⟨%f_cba, %e_cba, H_cba⟩, ⟨%f_cbg, %e_cbg, H_cbg⟩, ⟨%f_wd, %e_wd, H_wd⟩, ⟨%f_fg, %e_fg, H_fg⟩, ⟨%f_x, %e_x, H_x⟩⟩, ⟨%f_o, %e_o, H_o⟩, ⟨%f_h, %e_h, H_h⟩, ⟨%f_hh, %e_hh, H_hh⟩, ⟨⟨%f_ua1, %e_ua1, H_ua1⟩, ⟨%f_ug1, %e_ug1, H_ug1⟩, ⟨%f_ha1, %e_ha1, H_ha1⟩, ⟨%f_hg1, %e_hg1, H_hg1⟩⟩, ⟨⟨%d_ua0, %f_ua0, %e_ua0, H_ua0⟩, ⟨%d_ug0, %f_ug0, %e_ug0, H_ug0⟩, ⟨%d_ha0, %f_ha0, %e_ha0, H_ha0⟩, ⟨%d_hg0, %f_hg0, %e_hg0, H_hg0⟩⟩, Hk⟩
  obtain rfl := xpW.eq_unread e_xp
  obtain rfl := xnW.eq_unread e_xn
  obtain rfl := gW.eq_unread e_g
  obtain rfl := shW.eq_unread e_sh
  obtain rfl := scW.eq_unread e_sc
  obtain rfl := gateW.eq_unread e_gate
  obtain rfl := waW.eq_unread e_wa
  obtain rfl := wgW.eq_unread e_wg
  obtain rfl := cwaW.eq_unread e_cwa
  obtain rfl := cwgW.eq_unread e_cwg
  obtain rfl := cbaW.eq_unread e_cba
  obtain rfl := cbgW.eq_unread e_cbg
  obtain rfl := wdW.eq_unread e_wd
  obtain rfl := fgW.eq_unread e_fg
  obtain rfl := xW.eq_unread e_x
  obtain rfl := oW.eq_unread e_o
  obtain rfl := hW.eq_unread e_h
  obtain rfl := hhW.eq_unread e_hh
  obtain rfl := ua1W.eq_unread e_ua1
  obtain rfl := ug1W.eq_unread e_ug1
  obtain rfl := ha1W.eq_unread e_ha1
  obtain rfl := hg1W.eq_unread e_hg1
  sl_exec (disch := first | sl_exact hc0 | sl_exact hc1 | sl_exact hc2 | sl_exact hc3 | sl_exact hc4)
  sl_step
  iapply Hk
  isplitl [H_xp H_xn H_g H_sh H_sc H_gate H_wa H_wg H_cwa H_cwg H_cba H_cbg H_wd H_fg H_x]
  · isplitl [H_xp]
    · iexists _; isplitr; · ipureintro; exact xpW.read_unread _
      iexact H_xp
    isplitl [H_xn]
    · iexists _; isplitr; · ipureintro; exact xnW.read_unread _
      iexact H_xn
    isplitl [H_g]
    · iexists _; isplitr; · ipureintro; exact gW.read_unread _
      iexact H_g
    isplitl [H_sh]
    · iexists _; isplitr; · ipureintro; exact shW.read_unread _
      iexact H_sh
    isplitl [H_sc]
    · iexists _; isplitr; · ipureintro; exact scW.read_unread _
      iexact H_sc
    isplitl [H_gate]
    · iexists _; isplitr; · ipureintro; exact gateW.read_unread _
      iexact H_gate
    isplitl [H_wa]
    · iexists _; isplitr; · ipureintro; exact waW.read_unread _
      iexact H_wa
    isplitl [H_wg]
    · iexists _; isplitr; · ipureintro; exact wgW.read_unread _
      iexact H_wg
    isplitl [H_cwa]
    · iexists _; isplitr; · ipureintro; exact cwaW.read_unread _
      iexact H_cwa
    isplitl [H_cwg]
    · iexists _; isplitr; · ipureintro; exact cwgW.read_unread _
      iexact H_cwg
    isplitl [H_cba]
    · iexists _; isplitr; · ipureintro; exact cbaW.read_unread _
      iexact H_cba
    isplitl [H_cbg]
    · iexists _; isplitr; · ipureintro; exact cbgW.read_unread _
      iexact H_cbg
    isplitl [H_wd]
    · iexists _; isplitr; · ipureintro; exact wdW.read_unread _
      iexact H_wd
    isplitl [H_fg]
    · iexists _; isplitr; · ipureintro; exact fgW.read_unread _
      iexact H_fg
    iexists _; isplitr; · ipureintro; exact xW.read_unread _
    iexact H_x
  isplitl [H_o]
  · iexists _; isplitr; swap; · iexact H_o
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_h]
  · iexists _; isplitr; · ipureintro; exact hW.read_unread _
    iexact H_h
  isplitl [H_hh]
  · iexists _; isplitr; · ipureintro; exact hhW.read_unread _
    iexact H_hh
  isplitl [H_ua1 H_ug1 H_ha1 H_hg1]
  · isplitl [H_ua1]
    · iexists _; isplitr; · ipureintro; exact ua1W.read_unread _
      iexact H_ua1
    isplitl [H_ug1]
    · iexists _; isplitr; · ipureintro; exact ug1W.read_unread _
      iexact H_ug1
    isplitl [H_ha1]
    · iexists _; isplitr; · ipureintro; exact ha1W.read_unread _
      iexact H_ha1
    iexists _; isplitr; · ipureintro; exact hg1W.read_unread _
    iexact H_hg1
  isplitl [H_ua0]
  · iexists _; isplitr; swap; · iexact H_ua0
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ug0]
  · iexists _; isplitr; swap; · iexact H_ug0
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ha0]
  · iexists _; isplitr; swap; · iexact H_ha0
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  iexists _; isplitr; swap; · iexact H_hg0
  ipureintro
  refine (View.read_writes_full _ _ _ _ _).trans ?_
  try sl_unfold_run_names
  try simp (disch := decide) only [View.ld_unit_lit', View.readCov_unit_lit', View.readCov_cons_unit_lit', View.readAt_eq_ld, Memref.IsWhole.read_unread]
  try rfl

end Cert.FfnIdeal.Hand
-- ==== Proof.FfnRunD.lean ====
module

public import proofs.«01_k».proof.Proof.FfnDefs

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- A block's last step: it adds the last tile, of slot 1, and norms the gated residual sum. -/
theorem runD (c : Dev nD) (i : grid0.Coords) (R : Refs) (X : Blocks F) (U : Up F) (o : Vec F S1024x2048 .f32)
    (hc0 : ¬cond0 i)
    (hc1 : ¬cond1 i)
    (hc2 : ¬cond2 i)
    (hc3 : ¬cond3 i)
    (hc4 : cond4 i)
    (E : Set ℕ) (K : PUnit → sProp 𝕄) :
    iprop(insOwn c R X ∗ owns (c : Thread nD τ) R.o fullShare o ∗ slot1 c R U
        ∗ (iprop(insOwn c R X ∗ owns (c : Thread nD τ) R.o fullShare (final X (down i X U o)) ∗ slot1 c R U) -∗ K ⟨⟩))
      ⊢ wp frame (wpE (defs₀ (F := F)) Variants.none c none) E (bodyOn i R) K := by
  obtain ⟨xp, xpW, xn, xnW, g, gW, sh, shW, sc, scW, gate, gateW, wa, waW, wg, wgW, cwa, cwaW, cwg, cwgW, cba, cbaW, cbg, cbgW, wd, wdW, fg, fgW, x, xW, o, oW, h, hW, hh, hhW, ua0, ua0W, ug0, ug0W, ha0, ha0W, hg0, hg0W, ua1, ua1W, ug1, ug1W, ha1, ha1W, hg1, hg1W⟩ := R
  dsimp only [insOwn, slot0, slot1, slot0Any, slot1Any, bodyOn]
  simp only [cc0_conv_ffn_eq_skeleton]; unfold cc0_conv_ffn_skel
  simp only [k0_part10_eq_skeleton, k0_part11_eq_skeleton, k0_part12_eq_skeleton, k0_part13_eq_skeleton]
  unfold owns
  iintro ⟨⟨⟨%f_xp, %e_xp, H_xp⟩, ⟨%f_xn, %e_xn, H_xn⟩, ⟨%f_g, %e_g, H_g⟩, ⟨%f_sh, %e_sh, H_sh⟩, ⟨%f_sc, %e_sc, H_sc⟩, ⟨%f_gate, %e_gate, H_gate⟩, ⟨%f_wa, %e_wa, H_wa⟩, ⟨%f_wg, %e_wg, H_wg⟩, ⟨%f_cwa, %e_cwa, H_cwa⟩, ⟨%f_cwg, %e_cwg, H_cwg⟩, ⟨%f_cba, %e_cba, H_cba⟩, ⟨%f_cbg, %e_cbg, H_cbg⟩, ⟨%f_wd, %e_wd, H_wd⟩, ⟨%f_fg, %e_fg, H_fg⟩, ⟨%f_x, %e_x, H_x⟩⟩, ⟨%f_o, %e_o, H_o⟩, ⟨⟨%f_ua1, %e_ua1, H_ua1⟩, ⟨%f_ug1, %e_ug1, H_ug1⟩, ⟨%f_ha1, %e_ha1, H_ha1⟩, ⟨%f_hg1, %e_hg1, H_hg1⟩⟩, Hk⟩
  obtain rfl := xpW.eq_unread e_xp
  obtain rfl := xnW.eq_unread e_xn
  obtain rfl := gW.eq_unread e_g
  obtain rfl := shW.eq_unread e_sh
  obtain rfl := scW.eq_unread e_sc
  obtain rfl := gateW.eq_unread e_gate
  obtain rfl := waW.eq_unread e_wa
  obtain rfl := wgW.eq_unread e_wg
  obtain rfl := cwaW.eq_unread e_cwa
  obtain rfl := cwgW.eq_unread e_cwg
  obtain rfl := cbaW.eq_unread e_cba
  obtain rfl := cbgW.eq_unread e_cbg
  obtain rfl := wdW.eq_unread e_wd
  obtain rfl := fgW.eq_unread e_fg
  obtain rfl := xW.eq_unread e_x
  obtain rfl := oW.eq_unread e_o
  obtain rfl := ua1W.eq_unread e_ua1
  obtain rfl := ug1W.eq_unread e_ug1
  obtain rfl := ha1W.eq_unread e_ha1
  obtain rfl := hg1W.eq_unread e_hg1
  sl_exec (disch := first | sl_exact hc0 | sl_exact hc1 | sl_exact hc2 | sl_exact hc3 | sl_exact hc4)
  sl_step
  iapply Hk
  isplitl [H_xp H_xn H_g H_sh H_sc H_gate H_wa H_wg H_cwa H_cwg H_cba H_cbg H_wd H_fg H_x]
  · isplitl [H_xp]
    · iexists _; isplitr; · ipureintro; exact xpW.read_unread _
      iexact H_xp
    isplitl [H_xn]
    · iexists _; isplitr; · ipureintro; exact xnW.read_unread _
      iexact H_xn
    isplitl [H_g]
    · iexists _; isplitr; · ipureintro; exact gW.read_unread _
      iexact H_g
    isplitl [H_sh]
    · iexists _; isplitr; · ipureintro; exact shW.read_unread _
      iexact H_sh
    isplitl [H_sc]
    · iexists _; isplitr; · ipureintro; exact scW.read_unread _
      iexact H_sc
    isplitl [H_gate]
    · iexists _; isplitr; · ipureintro; exact gateW.read_unread _
      iexact H_gate
    isplitl [H_wa]
    · iexists _; isplitr; · ipureintro; exact waW.read_unread _
      iexact H_wa
    isplitl [H_wg]
    · iexists _; isplitr; · ipureintro; exact wgW.read_unread _
      iexact H_wg
    isplitl [H_cwa]
    · iexists _; isplitr; · ipureintro; exact cwaW.read_unread _
      iexact H_cwa
    isplitl [H_cwg]
    · iexists _; isplitr; · ipureintro; exact cwgW.read_unread _
      iexact H_cwg
    isplitl [H_cba]
    · iexists _; isplitr; · ipureintro; exact cbaW.read_unread _
      iexact H_cba
    isplitl [H_cbg]
    · iexists _; isplitr; · ipureintro; exact cbgW.read_unread _
      iexact H_cbg
    isplitl [H_wd]
    · iexists _; isplitr; · ipureintro; exact wdW.read_unread _
      iexact H_wd
    isplitl [H_fg]
    · iexists _; isplitr; · ipureintro; exact fgW.read_unread _
      iexact H_fg
    iexists _; isplitr; · ipureintro; exact xW.read_unread _
    iexact H_x
  isplitl [H_o]
  · iexists _; isplitr; swap; · iexact H_o
    ipureintro
    refine (View.read_writes_full _ _ _ _ _).trans ?_
    try sl_unfold_run_names
    try simp (disch := decide) only [View.ld_unit_lit', View.readCov_unit_lit', View.readCov_cons_unit_lit', View.readAt_eq_ld, Memref.IsWhole.read_unread]
    try rfl
  isplitl [H_ua1]
  · iexists _; isplitr; · ipureintro; exact ua1W.read_unread _
    iexact H_ua1
  isplitl [H_ug1]
  · iexists _; isplitr; · ipureintro; exact ug1W.read_unread _
    iexact H_ug1
  isplitl [H_ha1]
  · iexists _; isplitr; · ipureintro; exact ha1W.read_unread _
    iexact H_ha1
  iexists _; isplitr; · ipureintro; exact hg1W.read_unread _
  iexact H_hg1

end Cert.FfnIdeal.Hand
-- ==== Proof.FfnFrame.lean ====
module

public import proofs.«01_k».proof.Proof.FfnRunA
public import proofs.«01_k».proof.Proof.FfnRunB
public import proofs.«01_k».proof.Proof.FfnRunC
public import proofs.«01_k».proof.Proof.FfnRunD
public import proofs.«01_k».proof.Proof.Gen.FfnIdeal.Launch
public import proofs.«01_k».proof.Proof.Gen.FfnIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The points at which `scf.if` 0 is taken. -/
theorem hcond0 : ∀ t : Fin cfg0.N, cond0 (grid0.coords t) ↔ (t.val % 23 = 0) := by decide +kernel
/-- The points at which `scf.if` 1 is taken. -/
theorem hcond1 : ∀ t : Fin cfg0.N, cond1 (grid0.coords t) ↔ (t.val % 23 = 0) := by decide +kernel
/-- The points at which `scf.if` 2 is taken. -/
theorem hcond2 : ∀ t : Fin cfg0.N, cond2 (grid0.coords t) ↔ (t.val % 23 % 2 = 1) := by decide +kernel
/-- The points at which `scf.if` 3 is taken. -/
theorem hcond3 : ∀ t : Fin cfg0.N, cond3 (grid0.coords t) ↔ (t.val % 23 % 2 = 0 ∧ t.val % 23 ≠ 0 ∧ t.val % 23 ≠ 22) := by decide +kernel
/-- The points at which `scf.if` 4 is taken. -/
theorem hcond4 : ∀ t : Fin cfg0.N, cond4 (grid0.coords t) ↔ (t.val % 23 = 22) := by decide +kernel

/-- Every step stores into the output's block. -/
theorem live15 : ∀ t : Fin cfg0.N, cfg0.idle 15 (grid0.coords t) = false := by decide +kernel

/-- The output's buffer holds nothing of the block at the block's first step alone. -/
def freshTab (n : ℕ) : Bool := n % 23 == 0

theorem freshTab_step : ∀ t : Fin cfg0.N,
    freshTab (t.val + 1) = ((cfg0.win 15).flush t || (cfg0.idle 15 (cfg0.grid.coords t) && freshTab t.val)) := by decide +kernel

theorem fresh15 (t : Fin cfg0.N) : cfg0.fresh 15 t.val = freshTab t.val :=
  Pipeline.Cfg.fresh_tab cfg0 15 freshTab rfl freshTab_step t.val (Nat.le_of_lt t.isLt)

/-- The buffers that the body gets at point `t`. -/
def refs (t : Fin cfg0.N) : Refs where
  xp := win0_0.stage (cfg0.slots t 0)
  xpW := hstage0_0 ((cfg0.slots t 0).cast nbuf0_0)
  xn := win0_1.stage (cfg0.slots t 1)
  xnW := hstage0_1 ((cfg0.slots t 1).cast nbuf0_1)
  g := win0_2.stage (cfg0.slots t 2)
  gW := hstage0_2 ((cfg0.slots t 2).cast nbuf0_2)
  sh := win0_3.stage (cfg0.slots t 3)
  shW := hstage0_3 ((cfg0.slots t 3).cast nbuf0_3)
  sc := win0_4.stage (cfg0.slots t 4)
  scW := hstage0_4 ((cfg0.slots t 4).cast nbuf0_4)
  gate := win0_5.stage (cfg0.slots t 5)
  gateW := hstage0_5 ((cfg0.slots t 5).cast nbuf0_5)
  wa := win0_6.stage (cfg0.slots t 6)
  waW := hstage0_6 ((cfg0.slots t 6).cast nbuf0_6)
  wg := win0_7.stage (cfg0.slots t 7)
  wgW := hstage0_7 ((cfg0.slots t 7).cast nbuf0_7)
  cwa := win0_8.stage (cfg0.slots t 8)
  cwaW := hstage0_8 ((cfg0.slots t 8).cast nbuf0_8)
  cwg := win0_9.stage (cfg0.slots t 9)
  cwgW := hstage0_9 ((cfg0.slots t 9).cast nbuf0_9)
  cba := win0_10.stage (cfg0.slots t 10)
  cbaW := hstage0_10 ((cfg0.slots t 10).cast nbuf0_10)
  cbg := win0_11.stage (cfg0.slots t 11)
  cbgW := hstage0_11 ((cfg0.slots t 11).cast nbuf0_11)
  wd := win0_12.stage (cfg0.slots t 12)
  wdW := hstage0_12 ((cfg0.slots t 12).cast nbuf0_12)
  fg := win0_13.stage (cfg0.slots t 13)
  fgW := hstage0_13 ((cfg0.slots t 13).cast nbuf0_13)
  x := win0_14.stage (cfg0.slots t 14)
  xW := hstage0_14 ((cfg0.slots t 14).cast nbuf0_14)
  o := win0_15.stage (cfg0.slots t 15)
  oW := hstage0_15 ((cfg0.slots t 15).cast nbuf0_15)
  h := Memref.whole cc0_scratch0
  hW := Memref.isWhole_whole _
  hh := Memref.whole cc0_scratch1
  hhW := Memref.isWhole_whole _
  ua0 := Memref.whole cc0_scratch2
  ua0W := Memref.isWhole_whole _
  ug0 := Memref.whole cc0_scratch3
  ug0W := Memref.isWhole_whole _
  ha0 := Memref.whole cc0_scratch4
  ha0W := Memref.isWhole_whole _
  hg0 := Memref.whole cc0_scratch5
  hg0W := Memref.isWhole_whole _
  ua1 := Memref.whole cc0_scratch6
  ua1W := Memref.isWhole_whole _
  ug1 := Memref.whole cc0_scratch7
  ug1W := Memref.isWhole_whole _
  ha1 := Memref.whole cc0_scratch8
  ha1W := Memref.isWhole_whole _
  hg1 := Memref.whole cc0_scratch9
  hg1W := Memref.isWhole_whole _

/-- What the input blocks hold at point `t`. -/
def X (c : Dev nD) (t : Fin cfg0.N) : Blocks F where
  xp := iblk m c 0 t
  xn := iblk m c 1 t
  g := iblk m c 2 t
  sh := iblk m c 3 t
  sc := iblk m c 4 t
  gate := iblk m c 5 t
  wa := iblk m c 6 t
  wg := iblk m c 7 t
  cwa := iblk m c 8 t
  cwg := iblk m c 9 t
  cba := iblk m c 10 t
  cbg := iblk m c 11 t
  wd := iblk m c 12 t
  fg := iblk m c 13 t
  x := iblk m c 14 t

/-- The point of position `n`. -/
def pt (n : ℕ) : Fin cfg0.N := ⟨n % 184, lt_of_lt_of_eq (Nat.mod_lt _ (by omega)) N_0.symm⟩

theorem pt_val (t : Fin cfg0.N) : pt t.val = t :=
  Fin.ext (Nat.mod_eq_of_lt (lt_of_lt_of_eq t.isLt N_0))

/-- The normed rows of the block of position `n`, computed at the block's first step; -/
def hAt (c : Dev nD) (n : ℕ) : Vec F S1024x2048 .bf16 := H (X m c (pt (n - n % 23)))
/-- those of its halo; -/
def hhAt (c : Dev nD) (n : ℕ) : Vec F S16x2048 .bf16 := HH (X m c (pt (n - n % 23)))
/-- and the up-projections that position `n` leaves in its slot. -/
def uAt (c : Dev nD) (n : ℕ) : Up F := up (hAt m c n) (hhAt m c n) (X m c (pt n)).wa (X m c (pt n)).wg

/-- What position `n` leaves in the output's block. -/
def oAt (c : Dev nD) : ℕ → Vec F S1024x2048 .f32
  | 0 => k0_pay2
  | n + 1 =>
    if (n + 1) % 23 = 0 then k0_pay2
    else
      let d := down (grid0.coords (pt (n + 1))) (X m c (pt (n + 1))) (uAt m c n) (oAt c n)
      if (n + 1) % 23 = 22 then final (X m c (pt (n + 1))) d else d

theorem oAt_first (c : Dev nD) (t : Fin cfg0.N) (h : t.val % 23 = 0) : oAt m c t.val = k0_pay2 := by
  obtain ⟨n, hn⟩ := t
  cases n with
  | zero => rfl
  | succ n => exact if_pos h

theorem oAt_mid (c : Dev nD) (t : Fin cfg0.N) (h : t.val % 23 ≠ 0) (h' : t.val % 23 ≠ 22) :
    oAt m c t.val = down (grid0.coords t) (X m c t) (uAt m c (t.val - 1)) (oAt m c (t.val - 1)) := by
  have hp := pt_val t
  obtain ⟨n, hn⟩ := t
  cases n with
  | zero => exact absurd rfl h
  | succ n => rw [show oAt m c (n + 1) = _ from (if_neg h).trans (if_neg h'), hp]; rfl

theorem oAt_last (c : Dev nD) (t : Fin cfg0.N) (h : t.val % 23 = 22) :
    oAt m c t.val = final (X m c t) (down (grid0.coords t) (X m c t) (uAt m c (t.val - 1)) (oAt m c (t.val - 1))) := by
  have hp := pt_val t
  obtain ⟨n, hn⟩ := t
  cases n with
  | zero => dsimp only at h; omega
  | succ n => rw [show oAt m c (n + 1) = _ from (if_neg (by dsimp only at h; omega)).trans (if_pos h), hp]; rfl

theorem hAt_pred (c : Dev nD) (n : ℕ) (h : n % 23 ≠ 0) : hAt m c (n - 1) = hAt m c n := by
  unfold hAt; rw [show n - 1 - (n - 1) % 23 = n - n % 23 by omega]

theorem hhAt_pred (c : Dev nD) (n : ℕ) (h : n % 23 ≠ 0) : hhAt m c (n - 1) = hhAt m c n := by
  unfold hhAt; rw [show n - 1 - (n - 1) % 23 = n - n % 23 by omega]

theorem hAt_first (c : Dev nD) (t : Fin cfg0.N) (h : t.val % 23 = 0) : hAt m c t.val = H (X m c t) := by
  unfold hAt; rw [h, Nat.sub_zero, pt_val]

theorem hhAt_first (c : Dev nD) (t : Fin cfg0.N) (h : t.val % 23 = 0) : hhAt m c t.val = HH (X m c t) := by
  unfold hhAt; rw [h, Nat.sub_zero, pt_val]

theorem uAt_eq (c : Dev nD) (t : Fin cfg0.N) : uAt m c t.val = up (hAt m c t.val) (hhAt m c t.val) (X m c t).wa (X m c t).wg := by
  unfold uAt; rw [pt_val]

/-! ## The invariant -/

/-- The normed rows and the halo's in their scratch buffers. -/
def rowsOwn (c : Dev nD) (h : Vec F S1024x2048 .bf16) (hh : Vec F S16x2048 .bf16) : sProp 𝕄 :=
  iprop(owns (c : Thread nD τ) (Memref.whole cc0_scratch0) fullShare h ∗ owns (c : Thread nD τ) (Memref.whole cc0_scratch1) fullShare hh)

/-- The two buffers at anything. -/
def rowsAny (c : Dev nD) : sProp 𝕄 :=
  iprop((∃ d, owns (c : Thread nD τ) (Memref.whole cc0_scratch0) fullShare d) ∗ (∃ d, owns (c : Thread nD τ) (Memref.whole cc0_scratch1) fullShare d))

/-- The state of the random numbers. -/
def prng (c : Dev nD) : sProp 𝕄 := iprop(∃ r, prngReg c r)

theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ prng c) := by
  unfold Pipeline.ΦA prng; rw [scopedRest0_eq]; simp only [owns_whole]; try rfl

/-- The slots' buffers are the same at every point. -/
theorem slot0_refs (c : Dev nD) (t t' : Fin cfg0.N) (U : Up F) : slot0 c (refs t) U = slot0 c (refs t') U := rfl
theorem slot1_refs (c : Dev nD) (t t' : Fin cfg0.N) (U : Up F) : slot1 c (refs t) U = slot1 c (refs t') U := rfl
theorem slot0Any_refs (c : Dev nD) (t t' : Fin cfg0.N) : (slot0Any c (refs t) : sProp 𝕄) = slot0Any c (refs t') := rfl
theorem slot1Any_refs (c : Dev nD) (t t' : Fin cfg0.N) : (slot1Any c (refs t) : sProp 𝕄) = slot1Any c (refs t') := rfl

/-- Any point's. -/
abbrev p0 : Fin cfg0.N := pt 0

theorem slot0_any (c : Dev nD) (t : Fin cfg0.N) (U : Up F) : slot0 c (refs t) U ⊢ slot0Any c (refs t) := by
  unfold slot0 slot0Any
  iintro ⟨H0, H1, H2, H3⟩
  isplitl [H0]; · iexists _; iexact H0
  isplitl [H1]; · iexists _; iexact H1
  isplitl [H2]; · iexists _; iexact H2
  iexists _; iexact H3

theorem slot1_any (c : Dev nD) (t : Fin cfg0.N) (U : Up F) : slot1 c (refs t) U ⊢ slot1Any c (refs t) := by
  unfold slot1 slot1Any
  iintro ⟨H0, H1, H2, H3⟩
  isplitl [H0]; · iexists _; iexact H0
  isplitl [H1]; · iexists _; iexact H1
  isplitl [H2]; · iexists _; iexact H2
  iexists _; iexact H3

theorem rows_any (c : Dev nD) (h : Vec F S1024x2048 .bf16) (hh : Vec F S16x2048 .bf16) : rowsOwn c h hh ⊢ rowsAny c := by
  unfold rowsOwn rowsAny
  iintro ⟨H0, H1⟩
  isplitl [H0]; · iexists _; iexact H0
  iexists _; iexact H1

/-- The four groups of scratch buffers at anything, out of the launch's invariant -/
theorem PhiA_split (c : Dev nD) : (Pipeline.ΦA spec0 c : sProp 𝕄) ⊢ iprop(rowsAny c ∗ slot0Any c (refs p0) ∗ slot1Any c (refs p0) ∗ prng c) := by
  rw [PhiA_eq]
  unfold rowsAny slot0Any slot1Any
  iintro ⟨⟨H0, H1, H2, H3, H4, H5, H6, H7, H8, H9⟩, Hg⟩
  isplitl [H0 H1]
  · isplitl [H0]; · iexact H0
    iexact H1
  isplitl [H2 H3 H4 H5]
  · isplitl [H2]; · iexact H2
    isplitl [H3]; · iexact H3
    isplitl [H4]; · iexact H4
    iexact H5
  isplitl [H6 H7 H8 H9]
  · isplitl [H6]; · iexact H6
    isplitl [H7]; · iexact H7
    isplitl [H8]; · iexact H8
    iexact H9
  iexact Hg

/-- and back into it. -/
theorem PhiA_join (c : Dev nD) : iprop(rowsAny c ∗ slot0Any c (refs p0) ∗ slot1Any c (refs p0) ∗ prng c) ⊢ (Pipeline.ΦA spec0 c : sProp 𝕄) := by
  rw [PhiA_eq]
  unfold rowsAny slot0Any slot1Any
  iintro ⟨⟨H0, H1⟩, ⟨H2, H3, H4, H5⟩, ⟨H6, H7, H8, H9⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

/-- What holds before position `n`: between two blocks every scratch buffer is at anything; within a block the rows are
    there, and the slot of the tile before holds its up-projections. -/
def Inv (c : Dev nD) (n : ℕ) : sProp 𝕄 :=
  if n % 23 = 0 then Pipeline.ΦA spec0 c
  else if n % 23 % 2 = 1 then
    iprop(rowsOwn c (hAt m c (n - 1)) (hhAt m c (n - 1)) ∗ slot0 c (refs p0) (uAt m c (n - 1)) ∗ slot1Any c (refs p0) ∗ prng c)
  else
    iprop(rowsOwn c (hAt m c (n - 1)) (hhAt m c (n - 1)) ∗ slot0Any c (refs p0) ∗ slot1 c (refs p0) (uAt m c (n - 1)) ∗ prng c)

theorem Inv_start (c : Dev nD) (n : ℕ) (h : n % 23 = 0) : Inv m c n = Pipeline.ΦA spec0 c := if_pos h

theorem Inv_odd (c : Dev nD) (n : ℕ) (h : n % 23 % 2 = 1) : Inv m c n =
    iprop(rowsOwn c (hAt m c (n - 1)) (hhAt m c (n - 1)) ∗ slot0 c (refs p0) (uAt m c (n - 1)) ∗ slot1Any c (refs p0) ∗ prng c) :=
  (if_neg (by omega)).trans (if_pos h)

theorem Inv_even (c : Dev nD) (n : ℕ) (h : n % 23 % 2 = 0) (h' : n % 23 ≠ 0) : Inv m c n =
    iprop(rowsOwn c (hAt m c (n - 1)) (hhAt m c (n - 1)) ∗ slot0Any c (refs p0) ∗ slot1 c (refs p0) (uAt m c (n - 1)) ∗ prng c) :=
  (if_neg h').trans (if_neg (by omega))

/-! ## The pipeline's proof data -/

/-- The arrays as the region finds them; after the body at a point each input's buffer at its block and the output's at
    `oAt`; the invariant `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => oAt m c t.val
    | ⟨_ + 16, h⟩ => absurd h (Nat.not_lt.2 (Nat.le_add_left _ _))
  Φ t := Inv m c t.val
  q w := Pipeline.shareOf spec0 w
  owed _ := 0

theorem A_eq (c : Dev nD) (w : Fin cfg0.W) : (dats m 0 c).A w = V m c (Pipeline.arrRef spec0 w) := by
  dsimp only [dats]

theorem Phi_pre (c : Dev nD) (t : Fin cfg0.N) : (dats m 0 c).Φ t.castSucc = Inv m c t.val := by
  dsimp only [dats]; rfl

theorem Phi_post (c : Dev nD) (t : Fin cfg0.N) : (dats m 0 c).Φ t.succ = Inv m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = oAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-- Within a block the output's buffer holds what the step before left. -/
theorem before_15 (c : Dev nD) (t : Fin cfg0.N) (h : t.val % 23 ≠ 0) (d) : (dats m 0 c).before 15 t d = oAt m c (t.val - 1) := by
  rw [Dat.before_out_traj _ 15 rfl (fun _ _ => rfl)
      (fun t _ hi _ => absurd (hi.symm.trans (live15 t)) (by decide)) t.val t rfl d,
    if_neg (by rw [fresh15, freshTab]; simpa using h)]
  exact after_15 m c _

/-! ## The body, at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (win0_6.stage (cfg0.slots t 6)) fullShare (iblk m c 6 t) := by
  unfold Dat.leavesExact; rw [show cfg0.idle 6 (cfg0.grid.coords t) = false from rfl, after_6]
theorem leaves_7 (c : Dev nD) (t : Fin cfg0.N) :
    (dats m 0 c).leavesExact 7 t = owns (c : Thread nD τ) (win0_7.stage (cfg0.slots t 7)) fullShare (iblk m c 7 t) := by
  unfold Dat.leavesExact; rw [show cfg0.idle 7 (cfg0.grid.coords t) = false from rfl, after_7]
theorem leaves_8 (c : Dev nD) (t : Fin cfg0.N) :
    (dats m 0 c).leavesExact 8 t = owns (c : Thread nD τ) (win0_8.stage (cfg0.slots t 8)) fullShare (iblk m c 8 t) := by
  unfold Dat.leavesExact; rw [show cfg0.idle 8 (cfg0.grid.coords t) = false from rfl, after_8]
theorem leaves_9 (c : Dev nD) (t : Fin cfg0.N) :
    (dats m 0 c).leavesExact 9 t = owns (c : Thread nD τ) (win0_9.stage (cfg0.slots t 9)) fullShare (iblk m c 9 t) := by
  unfold Dat.leavesExact; rw [show cfg0.idle 9 (cfg0.grid.coords t) = false from rfl, after_9]
theorem leaves_10 (c : Dev nD) (t : Fin cfg0.N) :
    (dats m 0 c).leavesExact 10 t = owns (c : Thread nD τ) (win0_10.stage (cfg0.slots t 10)) fullShare (iblk m c 10 t) := by
  unfold Dat.leavesExact; rw [show cfg0.idle 10 (cfg0.grid.coords t) = false from rfl, after_10]
theorem leaves_11 (c : Dev nD) (t : Fin cfg0.N) :
    (dats m 0 c).leavesExact 11 t = owns (c : Thread nD τ) (win0_11.stage (cfg0.slots t 11)) fullShare (iblk m c 11 t) := by
  unfold Dat.leavesExact; rw [show cfg0.idle 11 (cfg0.grid.coords t) = false from rfl, after_11]
theorem leaves_12 (c : Dev nD) (t : Fin cfg0.N) :
    (dats m 0 c).leavesExact 12 t = owns (c : Thread nD τ) (win0_12.stage (cfg0.slots t 12)) fullShare (iblk m c 12 t) := by
  unfold Dat.leavesExact; rw [show cfg0.idle 12 (cfg0.grid.coords t) = false from rfl, after_12]
theorem leaves_13 (c : Dev nD) (t : Fin cfg0.N) :
    (dats m 0 c).leavesExact 13 t = owns (c : Thread nD τ) (win0_13.stage (cfg0.slots t 13)) fullShare (iblk m c 13 t) := by
  unfold Dat.leavesExact; rw [show cfg0.idle 13 (cfg0.grid.coords t) = false from rfl, after_13]
theorem leaves_14 (c : Dev nD) (t : Fin cfg0.N) :
    (dats m 0 c).leavesExact 14 t = owns (c : Thread nD τ) (win0_14.stage (cfg0.slots t 14)) fullShare (iblk m c 14 t) := by
  unfold Dat.leavesExact; rw [show cfg0.idle 14 (cfg0.grid.coords t) = false from rfl, after_14]
theorem leaves_15 (c : Dev nD) (t : Fin cfg0.N) :
    (dats m 0 c).leavesExact 15 t = owns (c : Thread nD τ) (win0_15.stage (cfg0.slots t 15)) fullShare (oAt m c t.val) := by
  unfold Dat.leavesExact; rw [show cfg0.idle 15 (cfg0.grid.coords t) = false from live15 t, after_15]

set_option maxHeartbeats 3200000 in
/-- A point's triple from what its case does with the scratch buffers and the output's block. -/
theorem wrap (c : Dev nD) (t : Fin cfg0.N)
    (hrun : ∀ K : PUnit → sProp 𝕄,
      iprop(Inv m c t.val ∗ (∃ d, owns (c : Thread nD τ) (refs t).o fullShare ((dats m 0 c).before 15 t d)) ∗ insOwn c (refs t) (X m c t)
        ∗ (iprop(insOwn c (refs t) (X m c t) ∗ owns (c : Thread nD τ) (refs t).o fullShare (oAt m c t.val) ∗ Inv m c (t.val + 1)) -∗ K ⟨⟩))
      ⊢ wp frame (wpE (defs₀ (F := F)) Variants.none c none) Set.univ (bodyOn (grid0.coords t) (refs t)) K) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12, before_13, before_14]
  rw [show (dats m 0 c).owesAt () t.succ = (dats m 0 c).owesAt () t.castSucc from rfl, Phi_pre, Phi_post]
  rw [leaves_0, leaves_1, leaves_2, leaves_3, leaves_4, leaves_5, leaves_6, leaves_7, leaves_8, leaves_9, leaves_10, leaves_11, leaves_12, leaves_13, leaves_14, leaves_15]
  refine Idealize.SL.BI.BIBase.Entails.trans ?_ (hrun _)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
  isplitl [HΦ]; · iexact HΦ
  isplitl [H15]; · iexact H15
  isplitl [H0 H1 H2 H3 H4 H5 H6 H7 H8 H9 H10 H11 H12 H13 H14]
  · unfold insOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  unfold insOwn
  iintro ⟨⟨H0, H1, H2, H3, H4, H5, H6, H7, H8, H9, H10, H11, H12, H13, H14⟩, H15, HΦ⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A block's first step. -/
theorem sound_A (c : Dev nD) (t : Fin cfg0.N) (h : t.val % 23 = 0) :
    bodyPre m c t ⊢ wp frame (wpE (defs₀ (F := F)) Variants.none c none) Set.univ (bodyAt0 t) (fun _ => bodyPost m c t) := by
  refine wrap m c t fun K => ?_
  rw [Inv_start m c _ h, Inv_odd m c (t.val + 1) (by omega), Nat.add_sub_cancel, uAt_eq, hAt_first m c t h, hhAt_first m c t h, oAt_first m c t h]
  have hr := runA c (grid0.coords t) (refs t) (X m c t)
    ((hcond0 t).mpr (by omega)) ((hcond1 t).mpr (by omega)) (fun h => absurd ((hcond2 t).mp h) (by omega)) (fun h => absurd ((hcond3 t).mp h) (by omega)) (fun h => absurd ((hcond4 t).mp h) (by omega)) Set.univ K
  rw [slot0Any_refs c t p0, slot0_refs c t p0] at hr
  refine Idealize.SL.BI.BIBase.Entails.trans ?_ hr
  iintro ⟨HΦ, ⟨%d, Ho⟩, Hi, Hk⟩
  icases (PhiA_split c) with HS
  ispecialize HS $$ HΦ
  icases HS with ⟨Hr, H0, H1, Hg⟩
  unfold rowsAny rowsOwn
  icases Hr with ⟨Hh, Hhh⟩
  isplitl [Hi]; · iexact Hi
  isplitl [Ho]; · iexists _; iexact Ho
  isplitl [Hh]; · iexact Hh
  isplitl [Hhh]; · iexact Hhh
  isplitl [H0]; · iexact H0
  iintro ⟨Hi, Ho, Hh, Hhh, H0⟩
  iapply Hk
  isplitl [Hi]; · iexact Hi
  isplitl [Ho]; · iexact Ho
  isplitl [Hh Hhh]
  · isplitl [Hh]; · iexact Hh
    iexact Hhh
  isplitl [H0]; · iexact H0
  isplitl [H1]; · iexact H1
  iexact Hg

/-- A middle step, of an odd tile. -/
theorem sound_B (c : Dev nD) (t : Fin cfg0.N) (h : t.val % 23 % 2 = 1) :
    bodyPre m c t ⊢ wp frame (wpE (defs₀ (F := F)) Variants.none c none) Set.univ (bodyAt0 t) (fun _ => bodyPost m c t) := by
  refine wrap m c t fun K => ?_
  have hb := before_15 m c t (by omega)
  simp only [hb]
  rw [Inv_odd m c t.val h, Inv_even m c (t.val + 1) (by omega) (by omega), Nat.add_sub_cancel, uAt_eq m c t, oAt_mid m c t (by omega) (by omega), hAt_pred m c t.val (by omega), hhAt_pred m c t.val (by omega)]
  have hr := runB c (grid0.coords t) (refs t) (X m c t) (hAt m c t.val) (hhAt m c t.val) (uAt m c (t.val - 1)) (oAt m c (t.val - 1))
    (fun h => absurd ((hcond0 t).mp h) (by omega)) (fun h => absurd ((hcond1 t).mp h) (by omega)) ((hcond2 t).mpr (by omega)) (fun h => absurd ((hcond3 t).mp h) (by omega)) (fun h => absurd ((hcond4 t).mp h) (by omega)) Set.univ K
  rw [slot1Any_refs c t p0, slot0_refs c t p0, slot1_refs c t p0] at hr
  refine Idealize.SL.BI.BIBase.Entails.trans ?_ hr
  unfold rowsOwn
  iintro ⟨⟨⟨Hh, Hhh⟩, H0, H1, Hg⟩, ⟨%d, Ho⟩, Hi, Hk⟩
  isplitl [Hi]; · iexact Hi
  isplitl [Ho]; · iexact Ho
  isplitl [Hh]; · iexact Hh
  isplitl [Hhh]; · iexact Hhh
  isplitl [H0]; · iexact H0
  isplitl [H1]; · iexact H1
  iintro ⟨Hi, Ho, Hh, Hhh, H0, H1⟩
  iapply Hk
  isplitl [Hi]; · iexact Hi
  isplitl [Ho]; · iexact Ho
  isplitl [Hh Hhh]
  · isplitl [Hh]; · iexact Hh
    iexact Hhh
  isplitl [H0]; · iapply (slot0_any c p0 _); iexact H0
  isplitl [H1]; · iexact H1
  iexact Hg

/-- A middle step, of an even tile. -/
theorem sound_C (c : Dev nD) (t : Fin cfg0.N) (h : t.val % 23 % 2 = 0) (h0 : t.val % 23 ≠ 0) (h22 : t.val % 23 ≠ 22) :
    bodyPre m c t ⊢ wp frame (wpE (defs₀ (F := F)) Variants.none c none) Set.univ (bodyAt0 t) (fun _ => bodyPost m c t) := by
  refine wrap m c t fun K => ?_
  have hb := before_15 m c t (by omega)
  simp only [hb]
  rw [Inv_even m c t.val h h0, Inv_odd m c (t.val + 1) (by omega), Nat.add_sub_cancel, uAt_eq m c t, oAt_mid m c t (by omega) (by omega), hAt_pred m c t.val (by omega), hhAt_pred m c t.val (by omega)]
  have hr := runC c (grid0.coords t) (refs t) (X m c t) (hAt m c t.val) (hhAt m c t.val) (uAt m c (t.val - 1)) (oAt m c (t.val - 1))
    (fun h => absurd ((hcond0 t).mp h) (by omega)) (fun h => absurd ((hcond1 t).mp h) (by omega)) (fun h => absurd ((hcond2 t).mp h) (by omega)) ((hcond3 t).mpr (by omega)) (fun h => absurd ((hcond4 t).mp h) (by omega)) Set.univ K
  rw [slot0Any_refs c t p0, slot1_refs c t p0, slot0_refs c t p0] at hr
  refine Idealize.SL.BI.BIBase.Entails.trans ?_ hr
  unfold rowsOwn
  iintro ⟨⟨⟨Hh, Hhh⟩, H0, H1, Hg⟩, ⟨%d, Ho⟩, Hi, Hk⟩
  isplitl [Hi]; · iexact Hi
  isplitl [Ho]; · iexact Ho
  isplitl [Hh]; · iexact Hh
  isplitl [Hhh]; · iexact Hhh
  isplitl [H1]; · iexact H1
  isplitl [H0]; · iexact H0
  iintro ⟨Hi, Ho, Hh, Hhh, H1, H0⟩
  iapply Hk
  isplitl [Hi]; · iexact Hi
  isplitl [Ho]; · iexact Ho
  isplitl [Hh Hhh]
  · isplitl [Hh]; · iexact Hh
    iexact Hhh
  isplitl [H0]; · iexact H0
  isplitl [H1]; · iapply (slot1_any c p0 _); iexact H1
  iexact Hg

/-- A block's last step. -/
theorem sound_D (c : Dev nD) (t : Fin cfg0.N) (h : t.val % 23 = 22) :
    bodyPre m c t ⊢ wp frame (wpE (defs₀ (F := F)) Variants.none c none) Set.univ (bodyAt0 t) (fun _ => bodyPost m c t) := by
  refine wrap m c t fun K => ?_
  have hb := before_15 m c t (by omega)
  simp only [hb]
  rw [Inv_even m c t.val (by omega) (by omega), Inv_start m c (t.val + 1) (by omega), oAt_last m c t h]
  have hr := runD c (grid0.coords t) (refs t) (X m c t) (uAt m c (t.val - 1)) (oAt m c (t.val - 1))
    (fun h => absurd ((hcond0 t).mp h) (by omega)) (fun h => absurd ((hcond1 t).mp h) (by omega)) (fun h => absurd ((hcond2 t).mp h) (by omega)) (fun h => absurd ((hcond3 t).mp h) (by omega)) ((hcond4 t).mpr (by omega)) Set.univ K
  rw [slot1_refs c t p0] at hr
  refine Idealize.SL.BI.BIBase.Entails.trans ?_ hr
  iintro ⟨⟨Hr, H0, H1, Hg⟩, ⟨%d, Ho⟩, Hi, Hk⟩
  isplitl [Hi]; · iexact Hi
  isplitl [Ho]; · iexact Ho
  isplitl [H1]; · iexact H1
  iintro ⟨Hi, Ho, H1⟩
  iapply Hk
  isplitl [Hi]; · iexact Hi
  isplitl [Ho]; · iexact Ho
  iapply (PhiA_join c)
  isplitl [Hr]; · iapply (rows_any c _ _); iexact Hr
  isplitl [H0]; · iexact H0
  isplitl [H1]; · iapply (slot1_any c p0 _); iexact H1
  iexact Hg

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 23 = 0
  · exact sound_A m c t h0
  by_cases h22 : t.val % 23 = 22
  · exact sound_D m c t h22
  by_cases h : t.val % 23 % 2 = 1
  · exact sound_B m c t h
  · exact sound_C m c t (by omega) h0 h22

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, Inv_start m c 0 rfl]

theorem hout (c : Dev nD) : (dats m 0 c).Φ (Fin.last cfg0.N) ⊢ Pipeline.ΦA spec0 c := by
  rw [show (dats m 0 c).Φ (Fin.last cfg0.N) = Inv m c cfg0.N from rfl, show cfg0.N = 184 from N_0, Inv_start m c 184 rfl]

set_option backward.isDefEq.respectTransparency.types false in
/-- Every execution terminates with the pipeline's arrays at what the proof data computes and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.FfnIdeal.Hand
-- ==== Proof.FfnXfer.lean ====
module

public import proofs.«01_k».proof.Defs
public import proofs.«01_k».proof.Proof.Gen.Ffn
public import proofs.«01_k».proof.Proof.FfnFrame

/-! # The frame of the feed-forward call as run

With no operation replaced, the printed program and its idealised version are one text over any float type, so the frame
proved of the latter at any float type is the former's. -/

@[expose] public section

set_option maxRecDepth 16384

noncomputable section

namespace Cert.FfnXfer

open Idealize.ShloMosaic Idealize.ShloMosaic.TcCoe Idealize.SL.Sem

variable {F : FTy → Type} [FloatOps F]

set_option maxHeartbeats 3200000 in
/-- The two kernels are one. -/
theorem kernel_eq : @Cert.Ffn.cc0_conv_ffn F _ _ = @Cert.FfnIdeal.cc0_conv_ffn F _ _ := rfl

set_option maxHeartbeats 3200000 in
/-- The two tables of bodies are one. -/
theorem defs₀_eq : @Cert.Ffn.defs₀ F _ _ = @Cert.FfnIdeal.defs₀ F _ _ := by
  unfold Cert.Ffn.defs₀ Cert.FfnIdeal.defs₀
  rw [kernel_eq]
  refine congrArg Defs.onTc (funext fun l => funext fun x => ?_)
  match l, x with
  | 0, (t, s) => rfl

set_option maxHeartbeats 3200000 in
/-- The two programs' bodies, pipelines and labels are one. -/
theorem defs_eq : Cert.Ffn.defs (F := F) = Cert.FfnIdeal.defs (F := F) := by
  unfold Cert.Ffn.defs Cert.FfnIdeal.defs
  rw [defs₀_eq]
  rfl

set_option maxHeartbeats 3200000 in
/-- The two programs' host parts are one. -/
theorem main_eq : Cert.Ffn.main (F := F) = Cert.FfnIdeal.main (F := F) := rfl

set_option maxHeartbeats 3200000 in
/-- The call runs, its arguments end unchanged and every semaphore ends at zero. -/
theorem frame_p : Cert.quiescent_Ffn := fun m ρ _ => by
  rw [defs_eq, main_eq]
  exact Cert.FfnIdeal.Hand.frame (F := Bits) m ρ

end Cert.FfnXfer
-- ==== Proof.FfnSpec.lean ====
/- The feed-forward part of the layer on the extended reals, row by row, of no program: the normalisation of a row, the
   modulated row, the gated feed-forward with its convolution of three rows, and the sums both programs take. -/
module

public import Idealize.ShloMosaic.PureOps.Ideal
public import Idealize.ShloMosaic.PureOps.Ideal.Laws
public import Mathlib.Algebra.BigOperators.Fin
public import Mathlib.Data.EReal.Operations
public import proofs.«01_k».proof.Proof.Softmax

@[expose] public section

noncomputable section

namespace Cert.FfnSpec

open Idealize.ShloMosaic
open scoped BigOperators

/-- The small number added under the root: the f32 of word 0x358637BD. -/
def eps : EReal := Ideal.ofBits .f32 0x358637BD#32

/-- A row over the root of the mean of its squares. -/
def rms (X : ℕ → EReal) (d : ℕ) : EReal :=
  X d * Ideal.rsqrt ((∑ k : Fin 2048, X k.val * X k.val) * ((1 / 2048 : ℝ) : EReal) + eps)

/-- A row normalised, weighted and modulated. -/
def hrow (X g sc sh : ℕ → EReal) (d : ℕ) : EReal := rms X d * g d * (1 + sc d) + sh d

/-- A row times a matrix of 2048 rows. -/
def urow (h : ℕ → EReal) (W : ℕ → ℕ → EReal) (n : ℕ) : EReal := ∑ k : Fin 2048, h k.val * W k.val n

/-- Three neighbours weighted and shifted. -/
def tap (p u n w0 w1 w2 b : EReal) : EReal := p * w0 + u * w1 + n * w2 + b

/-- The gated activation of a pair. -/
def act (a g : EReal) : EReal := Ideal.div a (1 + Ideal.exp (-a)) * g

/-- The convolution over the rows of a sequence of 4096: absent neighbours count as zero. -/
def conv (U : ℕ → EReal) (w0 w1 w2 b : EReal) (R : ℕ) : EReal :=
  tap (if R % 4096 = 0 then 0 else U (R - 1)) (U R) (if R % 4096 = 4095 then 0 else U (R + 1)) w0 w1 w2 b

/-- A normalised row reads its row below 2048 only. -/
theorem rms_congr {X X' : ℕ → EReal} (h : ∀ n < 2048, X n = X' n) (d : ℕ) (hd : d < 2048) : rms X d = rms X' d := by
  unfold rms
  rw [h d hd, Finset.sum_congr rfl fun k _ => by rw [h k.val k.2]]

/-- A modulated row reads its four rows below 2048 only. -/
theorem hrow_congr {X X' g g' sc sc' sh sh' : ℕ → EReal} (h : ∀ n < 2048, X n = X' n) (hg : ∀ n < 2048, g n = g' n)
    (hc : ∀ n < 2048, sc n = sc' n) (hh : ∀ n < 2048, sh n = sh' n) (d : ℕ) (hd : d < 2048) : hrow X g sc sh d = hrow X' g' sc' sh' d := by
  unfold hrow
  rw [rms_congr h d hd, hg d hd, hc d hd, hh d hd]

/-- A product reads its row and its matrix's column below 2048 only. -/
theorem urow_congr {h h' : ℕ → EReal} {W W' : ℕ → ℕ → EReal} {n n' : ℕ} (hh : ∀ k < 2048, h k = h' k) (hW : ∀ k < 2048, W k n = W' k n') :
    urow h W n = urow h' W' n' := by
  unfold urow
  exact Finset.sum_congr rfl fun k _ => by rw [hh k.val k.2, hW k.val k.2]

/-- A sum of 16 · 128 terms is the sum over 128 lanes of each lane's 16 terms. -/
theorem sum_lanes (f : ℕ → EReal) :
    (∑ l : Fin 128, Softmax.grpSum (fun k => f (128 * k + l.val)) 15) = ∑ j : Fin 2048, f j.val := by
  have h := Fintype.sum_equiv (finProdFinEquiv (m := 16) (n := 128)) (fun p => f (128 * p.1.val + p.2.val))
    (fun j : Fin (16 * 128) => f j.val) (fun p => by congr 1; simp [finProdFinEquiv]; omega)
  rw [show (∑ j : Fin 2048, f j.val) = ∑ j : Fin (16 * 128), f j.val from rfl, ← h, Fintype.sum_prod_type_right]
  refine Finset.sum_congr rfl fun l _ => ?_
  rw [Softmax.grpSum_eq, Finset.sum_range]

/-- The first `j` tiles of 256 terms and the next one are the first `j + 1`. -/
theorem sum_tiles (f : ℕ → EReal) (j : ℕ) :
    (∑ n ∈ Finset.range (256 * j), f n) + ∑ k : Fin 256, f (256 * j + k.val) = ∑ n ∈ Finset.range (256 * (j + 1)), f n := by
  rw [Nat.mul_add, Nat.mul_one, Finset.sum_range_add, Finset.sum_range (n := 256)]

/-- The f32 of word 0x3A000000 is the 2048th part of one. -/
theorem inv_2048 : Ideal.ofBits .f32 0x3A000000#32 = ((1 / 2048 : ℝ) : EReal) := by
  simp [Ideal.ofBits, Ideal.ieee]
  rw [← EReal.coe_mul]
  norm_num

/-- The f32 of word 0x45000000 is 2048. -/
theorem word_2048 : Ideal.ofBits .f32 0x45000000#32 = ((2048 : ℝ) : EReal) := by
  simp [Ideal.ofBits, Ideal.ieee]
  rw [← EReal.coe_mul]
  norm_num

/-- The f32 of word 0x3F800000 is one. -/
theorem word_one : Ideal.ofBits .f32 0x3F800000#32 = 1 := by
  simp [Ideal.ofBits, Ideal.ieee]
  try (rw [← EReal.coe_mul]; norm_num)

/-- The f32 of word 0 is zero. -/
theorem word_zero : Ideal.ofBits .f32 0x00000000#32 = 0 := by
  simp [Ideal.ofBits, Ideal.ieee]

end Cert.FfnSpec

end
-- ==== Proof.FfnRows.lean ====
module

public import proofs.«01_k».proof.Proof.FfnDefs
public import proofs.«01_k».proof.Proof.FfnSpec
public import proofs.«01_k».proof.Proof.Arr
public import Idealize.ShloMosaic.Lib.Pointwise
public import Idealize.ShloMosaic.Lib.Routing.Words

@[expose] public section

set_option maxRecDepth 16384

noncomputable section

namespace Cert.FfnIdeal.Rows

open Idealize.ShloMosaic Idealize.ShloMosaic.Pointwise Cert.FfnIdeal Cert.FfnIdeal.Gen Cert.FfnIdeal.Hand Cert.FfnSpec Cert.Arr
open scoped BigOperators

variable (X : Blocks Ideal)

/-- An element of a tile, at its coordinates. -/
theorem xe (x : Vec Ideal S1024x2048 .f32) (r : Fin 1024) (n : ℕ) (h : n < 2048) : x (ix2 r ⟨n, h⟩) = at2 x r.val n := at2_mk x r.val n r.2 h
/-- The same at a column given whole. -/
theorem xf (x : Vec Ideal S1024x2048 .f32) (r : Fin 1024) (n : Fin 2048) : x (ix2 r n) = at2 x r.val n.val := at2_mk x r.val n.val r.2 n.2
/-- An element of eight rows, at its coordinates. -/
theorem pe (x : Vec Ideal S8x2048 .f32) (r : Fin 8) (n : ℕ) (h : n < 2048) : x (ix2 r ⟨n, h⟩) = at2 x r.val n := at2_mk x r.val n r.2 h
/-- An element of a row, at its coordinate. -/
theorem ge (x : Vec Ideal S1x2048 .f32) (n : Fin 2048) : x (ix2 0 n) = at2 x 0 n.val := at2_mk x 0 n.val (by omega) n.2
/-- An element of a batch's row, at its coordinate. -/
theorem se (x : Vec Ideal S1x1x2048 .f32) (n : Fin 2048) : x (ix3 0 0 n) = at3 x 0 0 n.val := at3_mk x 0 0 n.val (by omega) (by omega) n.2

/-- The normalised and modulated rows of a tile. -/
theorem H_apply (r : Fin 1024) (d : Fin 2048) :
    H X (ix2 r d) = hrow (at2 X.x r.val) (at2 X.g 0) (at3 X.sc 0 0) (at3 X.sh 0 0) d.val := by
  unfold hrow rms
  rw [← sum_lanes fun n => at2 X.x r.val n * at2 X.x r.val n]
  simp only [Softmax.grpSum, Nat.reduceMul, Nat.reduceAdd, zero_add, Nat.mul_one, Nat.mul_zero]
  unfold H
  generalize X.x = x, X.g = g, X.sc = sc, X.sh = sh
  pointwise [k0_pay13, k0_pay10, k0_pay11, k0_pay12]
  simp only [xe, ge, se, inv_2048, eps]

/-- The normalised and modulated row before the tile, and the seven before it. -/
theorem prev_apply (xp : Vec Ideal S8x2048 .f32) (g : Vec Ideal S1x2048 .f32) (sc sh : Vec Ideal S1x1x2048 .f32) (r : Fin 8) (d : Fin 2048) :
    k0_pay16 xp (k0_pay14 g) (k0_pay15 xp) (Scalar.ofBits .f32 0x3A000000#32) sc sh (ix2 r d) = hrow (at2 xp r.val) (at2 g 0) (at3 sc 0 0) (at3 sh 0 0) d.val := by
  unfold hrow rms
  rw [← sum_lanes fun n => at2 xp r.val n * at2 xp r.val n]
  simp only [Softmax.grpSum, Nat.reduceMul, Nat.reduceAdd, zero_add, Nat.mul_one, Nat.mul_zero]
  pointwise [k0_pay16, k0_pay14, k0_pay15]
  simp only [pe, ge, se, inv_2048, eps]

/-- The halo's sixteen rows: the eight before the tile and the eight after it. -/
theorem HH_apply (r : Fin 16) (d : Fin 2048) :
    HH X (ix2 r d) = if r.val < 8 then hrow (at2 X.xp r.val) (at2 X.g 0) (at3 X.sc 0 0) (at3 X.sh 0 0) d.val
      else hrow (at2 X.xn (r.val - 8)) (at2 X.g 0) (at3 X.sc 0 0) (at3 X.sh 0 0) d.val := by
  unfold HH
  generalize X.xp = xp, X.xn = xn, X.g = g, X.sc = sc, X.sh = sh
  have hp := prev_apply xp g sc sh
  revert hp
  generalize k0_pay16 xp (k0_pay14 g) (k0_pay15 xp) (Scalar.ofBits .f32 0x3A000000#32) sc sh = y
  intro hp
  unfold hrow rms at hp ⊢
  rw [← sum_lanes fun n => at2 xn (r.val - 8) n * at2 xn (r.val - 8) n]
  simp only [Softmax.grpSum, Nat.reduceMul, Nat.reduceAdd, zero_add, Nat.mul_one, Nat.mul_zero]
  pointwise [k0_pay1, k0_pay17, k0_pay18, k0_pay19]
  have hr := r.2
  split_ifs with h h'
  · simp only [hp]
  · have e : ∀ n (hn : n < 2048), xn (ix2 ⟨r.val - 8, by omega⟩ ⟨n, hn⟩) = at2 xn (r.val - 8) n := fun n hn => at2_mk xn _ _ (by omega) hn
    have e0 : xn (ix2 ⟨r.val - 8, by omega⟩ d) = at2 xn (r.val - 8) d.val := e d.val d.2
    simp only [e, e0, ge, se, inv_2048, eps]
  · exact absurd rfl h'

/-- A tile's rows times a tile of columns. -/
theorem up_apply (h : Vec Ideal S1024x2048 .bf16) (hh : Vec Ideal S16x2048 .bf16) (wa wg : Vec Ideal S2048x256 .bf16) (r : Fin 1024) (k : Fin 256) :
    (up h hh wa wg).ua (ix2 r k) = urow (at2 h r.val) (at2 wa) k.val ∧ (up h hh wa wg).ug (ix2 r k) = urow (at2 h r.val) (at2 wg) k.val := by
  unfold up urow
  dsimp only
  constructor
  · pointwise [k0_pay3]
    exact Finset.sum_congr rfl fun x _ => by rw [xf h, ← at2_mk wa x.val k.val x.2 k.2]
  · pointwise [k0_pay4]
    exact Finset.sum_congr rfl fun x _ => by rw [xf h, ← at2_mk wg x.val k.val x.2 k.2]

/-- The halo's rows times a tile of columns. -/
theorem uph_apply (h : Vec Ideal S1024x2048 .bf16) (hh : Vec Ideal S16x2048 .bf16) (wa wg : Vec Ideal S2048x256 .bf16) (r : Fin 16) (k : Fin 256) :
    (up h hh wa wg).ha (ix2 r k) = urow (at2 hh r.val) (at2 wa) k.val ∧ (up h hh wa wg).hg (ix2 r k) = urow (at2 hh r.val) (at2 wg) k.val := by
  unfold up urow
  dsimp only
  constructor
  · pointwise [k0_pay5]
    exact Finset.sum_congr rfl fun x _ => by rw [← at2_mk hh r.val x.val r.2 x.2, ← at2_mk wa x.val k.val x.2 k.2]
  · pointwise [k0_pay6]
    exact Finset.sum_congr rfl fun x _ => by rw [← at2_mk hh r.val x.val r.2 x.2, ← at2_mk wg x.val k.val x.2 k.2]

/-- The result of a tile's row. -/
theorem final_apply (o : Vec Ideal S1024x2048 .f32) (r : Fin 1024) (d : Fin 2048) :
    final X o (ix2 r d) = rms (fun n => at2 X.x r.val n + at3 X.gate 0 0 n * at2 o r.val n) d.val * at2 X.fg 0 d.val := by
  unfold rms
  rw [← sum_lanes fun n => (at2 X.x r.val n + at3 X.gate 0 0 n * at2 o r.val n) * (at2 X.x r.val n + at3 X.gate 0 0 n * at2 o r.val n)]
  simp only [Softmax.grpSum, Nat.reduceMul, Nat.reduceAdd, zero_add, Nat.mul_one, Nat.mul_zero]
  unfold final
  generalize X.x = x, X.gate = gate, X.fg = fg
  have hy : ∀ (r : Fin 1024) (n : ℕ) (h : n < 2048), k0_pay53 x gate o (ix2 r ⟨n, h⟩) = at2 x r.val n + at3 gate 0 0 n * at2 o r.val n := by
    intro r n h
    pointwise [k0_pay53]
    simp only [xe, ← at3_mk gate 0 0 n (by omega) (by omega) h]
    rfl
  have hy' : ∀ (r : Fin 1024) (n : Fin 2048), k0_pay53 x gate o (ix2 r n) = at2 x r.val n.val + at3 gate 0 0 n.val * at2 o r.val n.val := fun r n => hy r n.val n.2
  unfold k0_pay55
  revert hy hy'
  generalize k0_pay53 x gate o = y
  intro hy hy'
  pointwise [k0_pay9, k0_pay54]
  simp only [hy, ge, inv_2048, eps]

/-- The position in its sequence of a row of tile `i`. -/
theorem pos_apply (i : ℕ) (hi : i < 8) (r : Fin 1024) :
    k0_pay25 (k0_pay24 (BitVec.ofNat 32 i)) 4096#32 (ix2 r 0) = BitVec.ofNat 32 ((1024 * i + r.val) % 4096) := by
  have hr := r.2
  have hw : IntOp.addi (Scalar.muli (BitVec.ofNat 32 i) 1024#32) (BitVec.ofNat 32 r.val) = BitVec.ofNat 32 (1024 * i + r.val) := by
    unfold IntOp.addi Scalar.muli IntOp.muli
    apply BitVec.eq_of_toNat_eq
    simp only [BitVec.toNat_add, BitVec.toNat_mul, BitVec.toNat_ofNat]
    omega
  have hc : Scalar.select (Scalar.cmpi CmpIPredicate.eq 4096#32 0#32) 1#32 4096#32 = 4096#32 := by decide
  pointwise [k0_pay25, k0_pay24]
  rw [hw, hc, Routing.remsi_word _ (by omega) (by norm_num) (by norm_num)]
  have hq : (1024 * i + r.val) % 4096 < 4096 := Nat.mod_lt _ (by norm_num)
  generalize (1024 * i + r.val) % 4096 = q at hq
  have h1 : IntOp.cmpi CmpIPredicate.slt (BitVec.ofNat 32 q) 0#32 = 0#1 := by
    show BitVec.ofBool ((BitVec.ofNat 32 q).slt 0#32) = 0#1
    rw [show (BitVec.ofNat 32 q).slt 0#32 = false from by
      rw [BitVec.slt_eq_decide, decide_eq_false_iff_not, BitVec.toInt_eq_toNat_of_lt (by rw [BitVec.toNat_ofNat]; omega)]
      have : (0#32).toInt = 0 := rfl
      omega]
    rfl
  have h2 : Scalar.cmpi CmpIPredicate.slt 4096#32 0#32 = 0#1 := by decide
  rw [h1, h2]
  have h3 : ∀ b : BitVec 1, IntOp.andi (IntOp.xori 0#1 0#1) b = 0#1 := by decide
  rw [h3]
  rfl

/-- A choice by the equality of two small words is one by the equality of the numbers. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  have h : (BitVec.ofNat 32 a == BitVec.ofNat 32 b) = decide (a = b) := by
    rw [beq_eq_decide]
    congr 1
    rw [eq_iff_iff]
    constructor
    · intro h
      have := congrArg BitVec.toNat h
      simp only [BitVec.toNat_ofNat] at this
      rwa [Nat.mod_eq_of_lt ha, Nat.mod_eq_of_lt hb] at this
    · rintro rfl; rfl
  show Scalar.select (BitVec.ofBool (BitVec.ofNat 32 a == BitVec.ofNat 32 b)) x y = _
  rw [h]
  by_cases hab : a = b
  · simp [hab, Scalar.select]
  · simp [hab, Scalar.select]

/-- The convolved columns of a tile's row. -/
def tconv (u : Vec Ideal S1024x256 .f32) (h : Vec Ideal S16x256 .f32) (w : Vec Ideal S3x256 .f32) (b : Vec Ideal S1x256 .f32) (p r k : ℕ) : EReal :=
  tap (if p = 0 then 0 else if r = 0 then at2 h 7 k else at2 u (r - 1) k) (at2 u r k)
    (if p = 4095 then 0 else if r = 1023 then at2 h 8 k else at2 u (r + 1) k) (at2 w 0 k) (at2 w 1 k) (at2 w 2 k) (at2 b 0 k)

/-- The kernel's choices of a row's two neighbours, read. -/
theorem tconv_read (p : Fin 1024 → ℕ) (hp : ∀ r, p r < 4096) (r : Fin 1024) (k : Fin 256)
    (u : Vec Ideal S1024x256 .f32) (h : Vec Ideal S16x256 .f32) (w : Vec Ideal S3x256 .f32) (b : Vec Ideal S1x256 .f32) (v : BitVec 32) (hv : v = BitVec.ofNat 32 (p r)) :
    (Scalar.select (IntOp.cmpi CmpIPredicate.eq v 0#32) 0
        (Scalar.select (IntOp.cmpi CmpIPredicate.eq (BitVec.ofNat 32 r.val) 0#32) (h (ix2 7 k)) (u (ix2 ⟨(r.val + 1024 - 1) % 1024, Nat.mod_lt _ (by norm_num)⟩ k)) * w (ix2 0 k))
      + u (ix2 r k) * w (ix2 1 k)
      + Scalar.select (IntOp.cmpi CmpIPredicate.eq v 4095#32) 0
        (Scalar.select (IntOp.cmpi CmpIPredicate.eq (BitVec.ofNat 32 r.val) 1023#32) (h (ix2 8 k)) (u (ix2 ⟨(r.val + 1024 - 1023) % 1024, Nat.mod_lt _ (by norm_num)⟩ k)) * w (ix2 2 k))
      + b (ix2 0 k) : EReal) = tconv u h w b (p r) r.val k.val := by
  have hr := r.2
  have hpr := hp r
  have e0 : ∀ {α : Type} (a : ℕ) (_ : a < 2 ^ 32) (x y : α), Scalar.select (IntOp.cmpi .eq (BitVec.ofNat 32 a) 0#32) x y = if a = 0 then x else y := fun a ha x y => sel_eq a 0 ha (by norm_num) x y
  have e1 : ∀ {α : Type} (a : ℕ) (_ : a < 2 ^ 32) (x y : α), Scalar.select (IntOp.cmpi .eq (BitVec.ofNat 32 a) 1023#32) x y = if a = 1023 then x else y := fun a ha x y => sel_eq a 1023 ha (by norm_num) x y
  have e2 : ∀ {α : Type} (a : ℕ) (_ : a < 2 ^ 32) (x y : α), Scalar.select (IntOp.cmpi .eq (BitVec.ofNat 32 a) 4095#32) x y = if a = 4095 then x else y := fun a ha x y => sel_eq a 4095 ha (by norm_num) x y
  have ue : ∀ n (hn : n < 1024), u (ix2 ⟨n, hn⟩ k) = at2 u n k.val := fun n hn => at2_mk u n k.val hn k.2
  have he : ∀ n (hn : n < 16), h (ix2 ⟨n, hn⟩ k) = at2 h n k.val := fun n hn => at2_mk h n k.val hn k.2
  have we : ∀ n (hn : n < 3), w (ix2 ⟨n, hn⟩ k) = at2 w n k.val := fun n hn => at2_mk w n k.val hn k.2
  have be : b (ix2 0 k) = at2 b 0 k.val := at2_mk b 0 k.val (by norm_num) k.2
  have w0 : w (ix2 0 k) = at2 w 0 k.val := we 0 (by norm_num)
  have w1 : w (ix2 1 k) = at2 w 1 k.val := we 1 (by norm_num)
  have w2 : w (ix2 2 k) = at2 w 2 k.val := we 2 (by norm_num)
  have h7 : h (ix2 7 k) = at2 h 7 k.val := he 7 (by norm_num)
  have h8 : h (ix2 8 k) = at2 h 8 k.val := he 8 (by norm_num)
  rw [hv, e0 _ (by omega), e0 _ (by omega), e2 _ (by omega), e1 _ (by omega), ue, ue, ue, h7, h8, w0, w1, w2, be]
  unfold tconv tap
  have m0 : ∀ (q : Prop) [Decidable q] (x y : EReal), (if q then 0 else x) * y = if q then 0 else x * y := fun q _ x y => by
    split_ifs
    · exact zero_mul y
    · rfl
  rw [m0, m0]
  congr 2
  · congr 3
    by_cases h0 : r.val = 0
    · simp only [h0, if_true]
    · rw [if_neg h0, if_neg h0, show (r.val + 1024 - 1) % 1024 = r.val - 1 by omega]
  · congr 2
    by_cases h0 : r.val = 1023
    · simp only [h0, if_true]
    · rw [if_neg h0, if_neg h0, show (r.val + 1024 - 1023) % 1024 = r.val + 1 by omega]

/-- The first half of the columns, convolved. -/
theorem conv_a (v67 v51 : IVec S1024x1 32) (p : Fin 1024 → ℕ) (hp : ∀ r, p r < 4096) (h67 : ∀ r, v67 (ix2 r 0) = BitVec.ofNat 32 (p r)) (h25 : k0_pay25 v51 4096#32 = v67)
    (u : Vec Ideal S1024x256 .f32) (h : Vec Ideal S16x256 .f32) (w : Vec Ideal S3x256 .f32) (b : Vec Ideal S1x256 .f32) (r : Fin 1024) (k : Fin 256) :
    k0_pay28 v67 u w (k0_pay26 (iota .tc S1024x1 32 [0] iota_S1024x1_d0_w32) v51 4096#32 u h) (k0_pay27 (iota .tc S1024x1 32 [0] iota_S1024x1_d0_w32) u h) b (ix2 r k)
      = tconv u h w b (p r) r.val k.val := by
  unfold tconv tap k0_pay26
  rw [h25]
  pointwise [k0_pay28, k0_pay27]
  exact tconv_read p hp r k u h w b _ (h67 r)

/-- A tile's row after one more tile of columns. -/
theorem down_apply (i : grid0.Coords) (U : Up Ideal) (o : Vec Ideal S1024x2048 .f32) (r : Fin 1024) (e : Fin 2048) :
    down i X U o (ix2 r e) = at2 o r.val e.val
      + ∑ k : Fin 256, act (tconv U.ua U.ha X.cwa X.cba ((1024 * (i 0).val + r.val) % 4096) r.val k.val) (tconv U.ug U.hg X.cwg X.cbg ((1024 * (i 0).val + r.val) % 4096) r.val k.val)
        * at2 X.wd k.val e.val := by
  have hi : (i 0).val < 8 := (i 0).2
  have h67 := pos_apply (i 0).val hi
  have ha := conv_a (k0_pay25 (k0_pay24 (BitVec.ofNat 32 (i 0).val)) 4096#32) (k0_pay24 (BitVec.ofNat 32 (i 0).val)) (fun r => (1024 * (i 0).val + r.val) % 4096)
    (fun r => Nat.mod_lt _ (by norm_num)) h67 rfl U.ua U.ha X.cwa X.cba r
  have hg := fun k => tconv_read (fun r => (1024 * (i 0).val + r.val) % 4096) (fun r => Nat.mod_lt _ (by norm_num)) r k U.ug U.hg X.cwg X.cbg _ (h67 r)
  unfold down
  dsimp only
  revert ha hg
  generalize k0_pay28 _ U.ua X.cwa _ _ X.cba = a
  generalize k0_pay25 (k0_pay24 (BitVec.ofNat 32 (i 0).val)) 4096#32 = v67
  generalize X.cwg = w, X.cbg = b, X.wd = wd
  intro ha hg
  pointwise [k0_pay7, k0_pay29, k0_pay30, k0_pay31, k0_pay32]
  rw [xf o]
  refine congrArg (at2 o r.val e.val + ·) (Finset.sum_congr rfl fun k _ => ?_)
  rw [hg, ha, zero_sub, ← at2_mk wd k.val e.val k.2 e.2]
  rfl

end Cert.FfnIdeal.Rows

end
-- ==== Proof.FfnLayer.lean ====
/- The feed-forward part of the layer as a function of its ten arguments, of no program: every row normalised and modulated,
   the two up-projections, the convolution over the rows of a sequence, the gated product, the down-projection, the gated
   residual and the last normalisation. -/
module

public import proofs.«01_k».proof.Proof.FfnSpec
public import proofs.«01_k».proof.Proof.Arr

@[expose] public section

noncomputable section

namespace Cert.FfnSpec

open Idealize.ShloMosaic Idealize.ShloMosaic.Pointwise Cert.Arr
open scoped BigOperators

/-- The element of a vector at a natural coordinate (zero outside the vector). -/
def at1 {a : ℕ} (X : (⟨1, ![a]⟩ : Shape).Idx → EReal) (i : ℕ) : EReal := if h : i < a then X (ix1 ⟨i, h⟩) else 0

/-- An element of a vector is the one at its coordinate. -/
theorem at1_mk {a : ℕ} (X : (⟨1, ![a]⟩ : Shape).Idx → EReal) (i : ℕ) (hi : i < a) : X (ix1 ⟨i, hi⟩) = at1 X i := by simp [at1, hi]

/-- The arguments of the call, at natural coordinates: the rows `x`, the weights `g` of the first normalisation, each batch's
    shift, scale and gate, the up-projections, the convolution's weights and shifts, the down-projection, and the weights of the
    last normalisation. -/
structure Args where
  x : ℕ → ℕ → EReal
  g : ℕ → EReal
  sh : ℕ → ℕ → EReal
  sc : ℕ → ℕ → EReal
  gate : ℕ → ℕ → EReal
  wu : ℕ → ℕ → EReal
  cw : ℕ → ℕ → EReal
  cb : ℕ → EReal
  wd : ℕ → ℕ → EReal
  fg : ℕ → EReal

/-- The arguments out of the ten arrays. -/
def args (x0 : (⟨2, ![8192, 2048]⟩ : Shape).Idx → EReal) (x1 : (⟨1, ![2048]⟩ : Shape).Idx → EReal) (x2 x3 x4 : (⟨3, ![2, 1, 2048]⟩ : Shape).Idx → EReal)
    (x5 : (⟨2, ![2048, 11264]⟩ : Shape).Idx → EReal) (x6 : (⟨2, ![3, 11264]⟩ : Shape).Idx → EReal) (x7 : (⟨1, ![11264]⟩ : Shape).Idx → EReal)
    (x8 : (⟨2, ![5632, 2048]⟩ : Shape).Idx → EReal) (x9 : (⟨1, ![2048]⟩ : Shape).Idx → EReal) : Args where
  x := at2 x0
  g := at1 x1
  sh b n := at3 x2 b 0 n
  sc b n := at3 x3 b 0 n
  gate b n := at3 x4 b 0 n
  wu := at2 x5
  cw := at2 x6
  cb := at1 x7
  wd := at2 x8
  fg := at1 x9

variable (A : Args)

/-- Row `R` normalised and modulated with its batch's scale and shift. -/
def nrow (R d : ℕ) : EReal := hrow (A.x R) A.g (A.sc (R / 4096)) (A.sh (R / 4096)) d

/-- Its up-projection at column `n`. -/
def upp (n R : ℕ) : EReal := urow (nrow A R) A.wu n

/-- The convolution of the up-projections at column `n`, at row `R`. -/
def cv (R n : ℕ) : EReal := conv (upp A n) (A.cw 0 n) (A.cw 1 n) (A.cw 2 n) (A.cb n) R

/-- The gated pair at column `n` of the first half. -/
def pair (R n : ℕ) : EReal := act (cv A R n) (cv A R (5632 + n))

/-- The down-projection at column `e`. -/
def ffn (R e : ℕ) : EReal := ∑ n ∈ Finset.range 5632, pair A R n * A.wd n e

/-- The row with the gated result added. -/
def res (R d : ℕ) : EReal := A.x R d + A.gate (R / 4096) d * ffn A R d

/-- The result of the call at row `R`, column `d`. -/
def out (R d : ℕ) : EReal := rms (res A R) d * A.fg d

end Cert.FfnSpec

end
-- ==== Proof.FfnTile.lean ====
module

public import proofs.«01_k».proof.Proof.FfnRows
public import proofs.«01_k».proof.Proof.FfnLayer
public import proofs.«01_k».proof.Proof.FfnFrame

/-! # The feed-forward call's blocks, and what its points leave in them -/

@[expose] public section

set_option maxRecDepth 16384

noncomputable section

namespace Cert.FfnIdeal.Tile

open Idealize.ShloMosaic Idealize.ShloMosaic.TcCoe Idealize.SL.Sem Idealize.ShloMosaic.Pointwise Cert.FfnIdeal Cert.FfnIdeal.Gen Cert.FfnIdeal.Hand Cert.FfnIdeal.Rows Cert.FfnSpec Cert.Arr
open Idealize.ShloMosaic.Pipeline (Dat)
open scoped BigOperators

/-- A block of a matrix, read entry by entry at the place its rectangle gives. -/
theorem rd2 {a b a' b' : ℕ} (X : (⟨2, ![a, b]⟩ : Shape).Idx → EReal) (Y : (⟨2, ![a', b']⟩ : Shape).Idx → EReal)
    (f : (⟨2, ![a, b]⟩ : Shape).Idx → (⟨2, ![a', b']⟩ : Shape).Idx) (hX : ∀ i, X i = Y (f i)) {i j i' j' : ℕ}
    (hi : i < a) (hj : j < b)
    (h0 : (f (ix2 ⟨i, hi⟩ ⟨j, hj⟩) 0).val = i') (h1 : (f (ix2 ⟨i, hi⟩ ⟨j, hj⟩) 1).val = j') : at2 X i j = at2 Y i' j' := by
  rw [← at2_mk X i j hi hj, hX, at2_idx Y, h0, h1]

/-- The same for a stack. -/
theorem rd3 {a b d a' b' d' : ℕ} (X : (⟨3, ![a, b, d]⟩ : Shape).Idx → EReal) (Y : (⟨3, ![a', b', d']⟩ : Shape).Idx → EReal)
    (f : (⟨3, ![a, b, d]⟩ : Shape).Idx → (⟨3, ![a', b', d']⟩ : Shape).Idx) (hX : ∀ i, X i = Y (f i)) {i j k i' j' k' : ℕ}
    (hi : i < a) (hj : j < b) (hk : k < d)
    (h0 : (f (ix3 ⟨i, hi⟩ ⟨j, hj⟩ ⟨k, hk⟩) 0).val = i') (h1 : (f (ix3 ⟨i, hi⟩ ⟨j, hj⟩ ⟨k, hk⟩) 1).val = j')
    (h2 : (f (ix3 ⟨i, hi⟩ ⟨j, hj⟩ ⟨k, hk⟩) 2).val = k') : at3 X i j k = at3 Y i' j' k' := by
  rw [← at3_mk X i j k hi hj hk, hX, at3_idx Y, h0, h1, h2]

/-- Where the windows over the rows' and the batches' arrays begin at a point, in blocks. -/
theorem idx_rows : ∀ t : Fin grid0.N,
    (win0_0.index t 0 = 128 * (t.val / 23) - 1 ∧ win0_0.index t 1 = 0)
    ∧ (win0_1.index t 0 = min (128 * (t.val / 23 + 1)) 1023 ∧ win0_1.index t 1 = 0)
    ∧ (win0_2.index t 0 = 0 ∧ win0_2.index t 1 = 0)
    ∧ (win0_3.index t 0 = t.val / 92 ∧ win0_3.index t 1 = 0 ∧ win0_3.index t 2 = 0)
    ∧ (win0_4.index t 0 = t.val / 92 ∧ win0_4.index t 1 = 0 ∧ win0_4.index t 2 = 0)
    ∧ (win0_5.index t 0 = t.val / 92 ∧ win0_5.index t 1 = 0 ∧ win0_5.index t 2 = 0)
    ∧ (win0_13.index t 0 = 0 ∧ win0_13.index t 1 = 0)
    ∧ (win0_14.index t 0 = t.val / 23 ∧ win0_14.index t 1 = 0)
    ∧ (win0_15.index t 0 = t.val / 23 ∧ win0_15.index t 1 = 0) ∧ (grid0.coords t 0).val = t.val / 23 := by
  decide +kernel

/-- The same for the windows over the weights. -/
theorem idx_cols : ∀ t : Fin grid0.N,
    (win0_6.index t 0 = 0 ∧ win0_6.index t 1 = min (t.val % 23) 21)
    ∧ (win0_7.index t 0 = 0 ∧ win0_7.index t 1 = 22 + min (t.val % 23) 21)
    ∧ (win0_8.index t 0 = 0 ∧ win0_8.index t 1 = t.val % 23 - 1)
    ∧ (win0_9.index t 0 = 0 ∧ win0_9.index t 1 = 22 + (t.val % 23 - 1))
    ∧ (win0_10.index t 0 = 0 ∧ win0_10.index t 1 = t.val % 23 - 1)
    ∧ (win0_11.index t 0 = 0 ∧ win0_11.index t 1 = 22 + (t.val % 23 - 1))
    ∧ (win0_12.index t 0 = t.val % 23 - 1 ∧ win0_12.index t 1 = 0) := by
  decide +kernel

variable (m : (ℓ : Loc nD τ sig) → Buf (Elt Ideal) ℓ) (c : Dev nD)

/-- The call's arguments, out of the arrays as they were given. -/
def A : Args := args (m (c, main_arg0)) (m (c, main_arg1)) (m (c, main_arg2)) (m (c, main_arg3)) (m (c, main_arg4)) (m (c, main_arg5))
  (m (c, main_arg6)) (m (c, main_arg7)) (m (c, main_arg8)) (m (c, main_arg9))

/-- The up-projections' matrix in the products' type is the argument. -/
theorem V_v0 : V m c main_v0 = m (c, main_arg5) := by
  unfold V
  after_results
  rfl

/-- The down-projection's likewise. -/
theorem V_v1 : V m c main_v1 = m (c, main_arg8) := by
  unfold V
  after_results
  rfl

/-- The weights of the first normalisation as a row. -/
theorem V_v2 (n : ℕ) (hn : n < 2048) : at2 (V m c main_v2) 0 n = (A m c).g n := by
  refine (at2_mk _ 0 n (by omega) hn).symm.trans (Eq.trans ?_ (at1_mk _ n hn))
  unfold V
  after_results
  pointwise []

/-- The convolution's shifts as a row. -/
theorem V_v3 (n : ℕ) (hn : n < 11264) : at2 (V m c main_v3) 0 n = (A m c).cb n := by
  refine (at2_mk _ 0 n (by omega) hn).symm.trans (Eq.trans ?_ (at1_mk _ n hn))
  unfold V
  after_results
  pointwise []

/-- Once more. -/
theorem V_v4 (n : ℕ) (hn : n < 11264) : at2 (V m c main_v4) 0 n = (A m c).cb n := by
  refine (at2_mk _ 0 n (by omega) hn).symm.trans (Eq.trans ?_ (at1_mk _ n hn))
  unfold V
  after_results
  pointwise []

/-- The weights of the last normalisation as a row. -/
theorem V_v5 (n : ℕ) (hn : n < 2048) : at2 (V m c main_v5) 0 n = (A m c).fg n := by
  refine (at2_mk _ 0 n (by omega) hn).symm.trans (Eq.trans ?_ (at1_mk _ n hn))
  unfold V
  after_results
  pointwise []

variable (t : Fin cfg0.N)

/-- The eight rows before a tile's. -/
theorem blk0 (r n : ℕ) (hr : r < 8) (hn : n < 2048) : at2 (X m c t).xp r n = (A m c).x (8 * (128 * (t.val / 23) - 1) + r) n := by
  obtain ⟨h0, h1⟩ := (idx_rows t).1
  refine (rd2 (iblk m c 0 t) (V m c main_arg0) _ (fun i => by unfold iblk; exact View.read_apply ..) hr hn ?_ ?_).trans (by rw [V_main_arg0]; rfl)
  · show win0_0.index t 0 * 8 + 1 * r = _; rw [h0]; omega
  · show win0_0.index t 1 * 2048 + 1 * n = n; rw [h1]; omega

/-- The eight rows after it. -/
theorem blk1 (r n : ℕ) (hr : r < 8) (hn : n < 2048) : at2 (X m c t).xn r n = (A m c).x (8 * min (128 * (t.val / 23 + 1)) 1023 + r) n := by
  obtain ⟨h0, h1⟩ := (idx_rows t).2.1
  refine (rd2 (iblk m c 1 t) (V m c main_arg0) _ (fun i => by unfold iblk; exact View.read_apply ..) hr hn ?_ ?_).trans (by rw [V_main_arg0]; rfl)
  · show win0_1.index t 0 * 8 + 1 * r = _; rw [h0]; omega
  · show win0_1.index t 1 * 2048 + 1 * n = n; rw [h1]; omega

/-- The weights of the first normalisation. -/
theorem blk2 (n : ℕ) (hn : n < 2048) : at2 (X m c t).g 0 n = (A m c).g n := by
  obtain ⟨h0, h1⟩ := (idx_rows t).2.2.1
  refine (rd2 (i' := 0) (j' := n) (iblk m c 2 t) (V m c main_v2) _ (fun i => by unfold iblk; exact View.read_apply ..) (by omega) hn ?_ ?_).trans (V_v2 m c n hn)
  · show win0_2.index t 0 * 1 + 1 * 0 = _; rw [h0]
  · show win0_2.index t 1 * 2048 + 1 * n = n; rw [h1]; omega

/-- The batch's shift. -/
theorem blk3 (n : ℕ) (hn : n < 2048) : at3 (X m c t).sh 0 0 n = (A m c).sh (t.val / 92) n := by
  obtain ⟨h0, h1, h2⟩ := (idx_rows t).2.2.2.1
  refine (rd3 (i' := t.val / 92) (j' := 0) (k' := n) (iblk m c 3 t) (V m c main_arg2) _ (fun i => by unfold iblk; exact View.read_apply ..) (by omega) (by omega) hn ?_ ?_ ?_).trans (by rw [V_main_arg2]; rfl)
  · show win0_3.index t 0 * 1 + 1 * 0 = _; rw [h0]; omega
  · show win0_3.index t 1 * 1 + 1 * 0 = _; rw [h1]
  · show win0_3.index t 2 * 2048 + 1 * n = n; rw [h2]; omega

/-- The batch's scale. -/
theorem blk4 (n : ℕ) (hn : n < 2048) : at3 (X m c t).sc 0 0 n = (A m c).sc (t.val / 92) n := by
  obtain ⟨h0, h1, h2⟩ := (idx_rows t).2.2.2.2.1
  refine (rd3 (i' := t.val / 92) (j' := 0) (k' := n) (iblk m c 4 t) (V m c main_arg3) _ (fun i => by unfold iblk; exact View.read_apply ..) (by omega) (by omega) hn ?_ ?_ ?_).trans (by rw [V_main_arg3]; rfl)
  · show win0_4.index t 0 * 1 + 1 * 0 = _; rw [h0]; omega
  · show win0_4.index t 1 * 1 + 1 * 0 = _; rw [h1]
  · show win0_4.index t 2 * 2048 + 1 * n = n; rw [h2]; omega

/-- The batch's gate. -/
theorem blk5 (n : ℕ) (hn : n < 2048) : at3 (X m c t).gate 0 0 n = (A m c).gate (t.val / 92) n := by
  obtain ⟨h0, h1, h2⟩ := (idx_rows t).2.2.2.2.2.1
  refine (rd3 (i' := t.val / 92) (j' := 0) (k' := n) (iblk m c 5 t) (V m c main_arg4) _ (fun i => by unfold iblk; exact View.read_apply ..) (by omega) (by omega) hn ?_ ?_ ?_).trans (by rw [V_main_arg4]; rfl)
  · show win0_5.index t 0 * 1 + 1 * 0 = _; rw [h0]; omega
  · show win0_5.index t 1 * 1 + 1 * 0 = _; rw [h1]
  · show win0_5.index t 2 * 2048 + 1 * n = n; rw [h2]; omega

/-- The columns of the up-projections that a point multiplies by, first half. -/
theorem blk6 (k n : ℕ) (hk : k < 2048) (hn : n < 256) : at2 (X m c t).wa k n = (A m c).wu k (256 * min (t.val % 23) 21 + n) := by
  obtain ⟨h0, h1⟩ := (idx_cols t).1
  refine (rd2 (iblk m c 6 t) (V m c main_v0) _ (fun i => by unfold iblk; exact View.read_apply ..) hk hn ?_ ?_).trans (by rw [V_v0]; rfl)
  · show win0_6.index t 0 * 2048 + 1 * k = k; rw [h0]; omega
  · show win0_6.index t 1 * 256 + 1 * n = _; rw [h1]; omega

/-- Second half. -/
theorem blk7 (k n : ℕ) (hk : k < 2048) (hn : n < 256) : at2 (X m c t).wg k n = (A m c).wu k (5632 + (256 * min (t.val % 23) 21 + n)) := by
  obtain ⟨h0, h1⟩ := (idx_cols t).2.1
  refine (rd2 (iblk m c 7 t) (V m c main_v0) _ (fun i => by unfold iblk; exact View.read_apply ..) hk hn ?_ ?_).trans (by rw [V_v0]; rfl)
  · show win0_7.index t 0 * 2048 + 1 * k = k; rw [h0]; omega
  · show win0_7.index t 1 * 256 + 1 * n = _; rw [h1]; omega

/-- The convolution's weights of the tile before, first half. -/
theorem blk8 (p n : ℕ) (hp : p < 3) (hn : n < 256) : at2 (X m c t).cwa p n = (A m c).cw p (256 * (t.val % 23 - 1) + n) := by
  obtain ⟨h0, h1⟩ := (idx_cols t).2.2.1
  refine (rd2 (iblk m c 8 t) (V m c main_arg6) _ (fun i => by unfold iblk; exact View.read_apply ..) hp hn ?_ ?_).trans (by rw [V_main_arg6]; rfl)
  · show win0_8.index t 0 * 3 + 1 * p = p; rw [h0]; omega
  · show win0_8.index t 1 * 256 + 1 * n = _; rw [h1]; omega

/-- Second half. -/
theorem blk9 (p n : ℕ) (hp : p < 3) (hn : n < 256) : at2 (X m c t).cwg p n = (A m c).cw p (5632 + (256 * (t.val % 23 - 1) + n)) := by
  obtain ⟨h0, h1⟩ := (idx_cols t).2.2.2.1
  refine (rd2 (iblk m c 9 t) (V m c main_arg6) _ (fun i => by unfold iblk; exact View.read_apply ..) hp hn ?_ ?_).trans (by rw [V_main_arg6]; rfl)
  · show win0_9.index t 0 * 3 + 1 * p = p; rw [h0]; omega
  · show win0_9.index t 1 * 256 + 1 * n = _; rw [h1]; omega

/-- Its shifts, first half. -/
theorem blk10 (n : ℕ) (hn : n < 256) : at2 (X m c t).cba 0 n = (A m c).cb (256 * (t.val % 23 - 1) + n) := by
  obtain ⟨h0, h1⟩ := (idx_cols t).2.2.2.2.1
  refine (rd2 (i' := 0) (iblk m c 10 t) (V m c main_v3) _ (fun i => by unfold iblk; exact View.read_apply ..) (by omega) hn ?_ ?_).trans (V_v3 m c _ (by omega))
  · show win0_10.index t 0 * 1 + 1 * 0 = _; rw [h0]
  · show win0_10.index t 1 * 256 + 1 * n = _; rw [h1]; omega

/-- Second half. -/
theorem blk11 (n : ℕ) (hn : n < 256) : at2 (X m c t).cbg 0 n = (A m c).cb (5632 + (256 * (t.val % 23 - 1) + n)) := by
  obtain ⟨h0, h1⟩ := (idx_cols t).2.2.2.2.2.1
  refine (rd2 (i' := 0) (iblk m c 11 t) (V m c main_v4) _ (fun i => by unfold iblk; exact View.read_apply ..) (by omega) hn ?_ ?_).trans (V_v4 m c _ (by omega))
  · show win0_11.index t 0 * 1 + 1 * 0 = _; rw [h0]
  · show win0_11.index t 1 * 256 + 1 * n = _; rw [h1]; omega

/-- The rows of the down-projection of the tile before. -/
theorem blk12 (k e : ℕ) (hk : k < 256) (he : e < 2048) : at2 (X m c t).wd k e = (A m c).wd (256 * (t.val % 23 - 1) + k) e := by
  obtain ⟨h0, h1⟩ := (idx_cols t).2.2.2.2.2.2
  refine (rd2 (iblk m c 12 t) (V m c main_v1) _ (fun i => by unfold iblk; exact View.read_apply ..) hk he ?_ ?_).trans (by rw [V_v1]; rfl)
  · show win0_12.index t 0 * 256 + 1 * k = _; rw [h0]; omega
  · show win0_12.index t 1 * 2048 + 1 * e = e; rw [h1]; omega

/-- The weights of the last normalisation. -/
theorem blk13 (n : ℕ) (hn : n < 2048) : at2 (X m c t).fg 0 n = (A m c).fg n := by
  obtain ⟨h0, h1⟩ := (idx_rows t).2.2.2.2.2.2.1
  refine (rd2 (i' := 0) (j' := n) (iblk m c 13 t) (V m c main_v5) _ (fun i => by unfold iblk; exact View.read_apply ..) (by omega) hn ?_ ?_).trans (V_v5 m c n hn)
  · show win0_13.index t 0 * 1 + 1 * 0 = _; rw [h0]
  · show win0_13.index t 1 * 2048 + 1 * n = n; rw [h1]; omega

/-- The rows of a tile. -/
theorem blk14 (r n : ℕ) (hr : r < 1024) (hn : n < 2048) : at2 (X m c t).x r n = (A m c).x (1024 * (t.val / 23) + r) n := by
  obtain ⟨h0, h1⟩ := (idx_rows t).2.2.2.2.2.2.2.1
  refine (rd2 (iblk m c 14 t) (V m c main_arg0) _ (fun i => by unfold iblk; exact View.read_apply ..) hr hn ?_ ?_).trans (by rw [V_main_arg0]; rfl)
  · show win0_14.index t 0 * 1024 + 1 * r = _; rw [h0]; omega
  · show win0_14.index t 1 * 2048 + 1 * n = n; rw [h1]; omega

end Cert.FfnIdeal.Tile

end
-- ==== Proof.FfnValue.lean ====
module

public import proofs.«01_k».proof.Proof.FfnTile

/-! # What the feed-forward call computes

By induction over a tile's points: after the point of column tile `j` the output's block holds the down-projection of the first
`j` tiles; the tile's last point adds the residual and normalises. -/

@[expose] public section

set_option maxRecDepth 16384

noncomputable section

namespace Cert.FfnIdeal.Tile

open Idealize.ShloMosaic Idealize.ShloMosaic.TcCoe Idealize.SL.Sem Idealize.ShloMosaic.Pointwise Cert.FfnIdeal Cert.FfnIdeal.Gen Cert.FfnIdeal.Hand Cert.FfnIdeal.Rows Cert.FfnSpec Cert.Arr
open Idealize.ShloMosaic.Pipeline (Dat)
open scoped BigOperators

/-- The convolution as a tile computes it, of its rows and the two rows beside it, is the convolution over the sequence. -/
theorem tconv_conv (u : Vec Ideal S1024x256 .f32) (h : Vec Ideal S16x256 .f32) (w : Vec Ideal S3x256 .f32) (b : Vec Ideal S1x256 .f32)
    (U : ℕ → EReal) (w0 w1 w2 b0 : EReal) (i r k : ℕ) (hr : r < 1024)
    (hu : ∀ r < 1024, at2 u r k = U (1024 * i + r)) (h7 : i % 4 ≠ 0 → at2 h 7 k = U (1024 * i - 1)) (h8 : i % 4 ≠ 3 → at2 h 8 k = U (1024 * (i + 1)))
    (e0 : at2 w 0 k = w0) (e1 : at2 w 1 k = w1) (e2 : at2 w 2 k = w2) (eb : at2 b 0 k = b0) :
    tconv u h w b ((1024 * i + r) % 4096) r k = conv U w0 w1 w2 b0 (1024 * i + r) := by
  unfold tconv conv
  rw [e0, e1, e2, eb, hu r hr]
  have hp : (if (1024 * i + r) % 4096 = 0 then 0 else if r = 0 then at2 h 7 k else at2 u (r - 1) k)
      = (if (1024 * i + r) % 4096 = 0 then 0 else U (1024 * i + r - 1)) := by
    by_cases c0 : (1024 * i + r) % 4096 = 0
    · rw [if_pos c0, if_pos c0]
    · rw [if_neg c0, if_neg c0]
      by_cases r0 : r = 0
      · rw [if_pos r0, h7 (by omega), r0]; rfl
      · rw [if_neg r0, hu (r - 1) (by omega)]; congr 1; omega
  have hn : (if (1024 * i + r) % 4096 = 4095 then 0 else if r = 1023 then at2 h 8 k else at2 u (r + 1) k)
      = (if (1024 * i + r) % 4096 = 4095 then 0 else U (1024 * i + r + 1)) := by
    by_cases c0 : (1024 * i + r) % 4096 = 4095
    · rw [if_pos c0, if_pos c0]
    · rw [if_neg c0, if_neg c0]
      by_cases r0 : r = 1023
      · rw [if_pos r0, h8 (by omega)]; congr 1; omega
      · rw [if_neg r0, hu (r + 1) (by omega)]; congr 1
  rw [hp, hn]

variable (m : (ℓ : Loc nD τ sig) → Buf (Elt Ideal) ℓ) (c : Dev nD) (t : Fin cfg0.N)

/-- The first point of a point's tile belongs to the same tile. -/
theorem first_div (n : ℕ) (hn : n < 184) : (pt (n - n % 23)).val / 23 = n / 23 := by
  show (n - n % 23) % 184 / 23 = n / 23
  omega

/-- The tile's rows, normalised and modulated. -/
theorem hAt_read (n : ℕ) (hn : n < 184) (r d : ℕ) (hr : r < 1024) (hd : d < 2048) :
    at2 (hAt m c n) r d = nrow (A m c) (1024 * (n / 23) + r) d := by
  have ht := first_div n hn
  rw [← at2_mk _ r d hr hd]
  unfold hAt
  rw [H_apply]
  unfold nrow
  have hb : (pt (n - n % 23)).val / 92 = (1024 * (n / 23) + r) / 4096 := by omega
  refine hrow_congr (fun k hk => ?_) (fun k hk => blk2 m c _ k hk) (fun k hk => ?_) (fun k hk => ?_) d hd
  · rw [blk14 m c _ r k hr hk, ht]
  · rw [blk4 m c _ k hk, hb]
  · rw [blk3 m c _ k hk, hb]

/-- The row before the tile, where its sequence has one. -/
theorem hhAt_prev (n : ℕ) (hn : n < 184) (h0 : n / 23 % 4 ≠ 0) (d : ℕ) (hd : d < 2048) :
    at2 (hhAt m c n) 7 d = nrow (A m c) (1024 * (n / 23) - 1) d := by
  have ht := first_div n hn
  rw [← at2_mk _ 7 d (by omega) hd]
  unfold hhAt
  rw [HH_apply, if_pos (by show 7 < 8; omega)]
  unfold nrow
  have hb : (pt (n - n % 23)).val / 92 = (1024 * (n / 23) - 1) / 4096 := by omega
  refine hrow_congr (fun k hk => ?_) (fun k hk => blk2 m c _ k hk) (fun k hk => ?_) (fun k hk => ?_) d hd
  · rw [blk0 m c _ 7 k (by omega) hk, ht]; congr 1; omega
  · rw [blk4 m c _ k hk, hb]
  · rw [blk3 m c _ k hk, hb]

/-- The row after the tile, where its sequence has one. -/
theorem hhAt_next (n : ℕ) (hn : n < 184) (h0 : n / 23 % 4 ≠ 3) (d : ℕ) (hd : d < 2048) :
    at2 (hhAt m c n) 8 d = nrow (A m c) (1024 * (n / 23 + 1)) d := by
  have ht := first_div n hn
  rw [← at2_mk _ 8 d (by omega) hd]
  unfold hhAt
  rw [HH_apply, if_neg (by show ¬ 8 < 8; omega)]
  unfold nrow
  have hb : (pt (n - n % 23)).val / 92 = (1024 * (n / 23 + 1)) / 4096 := by omega
  refine hrow_congr (fun k hk => ?_) (fun k hk => blk2 m c _ k hk) (fun k hk => ?_) (fun k hk => ?_) d hd
  · show at2 _ (8 - 8) k = _
    rw [blk1 m c _ 0 k (by omega) hk, ht]; congr 1; omega
  · rw [blk4 m c _ k hk, hb]
  · rw [blk3 m c _ k hk, hb]

/-- The up-projections a point leaves: of the tile's rows, first half; -/
theorem ua_read (hj : t.val % 23 < 22) (r k : ℕ) (hr : r < 1024) (hk : k < 256) :
    at2 (uAt m c t.val).ua r k = upp (A m c) (256 * (t.val % 23) + k) (1024 * (t.val / 23) + r) := by
  have ht : t.val < 184 := lt_of_lt_of_eq t.isLt N_0
  rw [uAt_eq, ← at2_mk _ r k hr hk, (up_apply _ _ _ _ _ _).1]
  exact urow_congr (fun d hd => hAt_read m c _ ht r d hr hd) fun d hd => by
    rw [blk6 m c t d k hd hk, show min (t.val % 23) 21 = t.val % 23 by omega]

/-- second half; -/
theorem ug_read (hj : t.val % 23 < 22) (r k : ℕ) (hr : r < 1024) (hk : k < 256) :
    at2 (uAt m c t.val).ug r k = upp (A m c) (5632 + (256 * (t.val % 23) + k)) (1024 * (t.val / 23) + r) := by
  have ht : t.val < 184 := lt_of_lt_of_eq t.isLt N_0
  rw [uAt_eq, ← at2_mk _ r k hr hk, (up_apply _ _ _ _ _ _).2]
  exact urow_congr (fun d hd => hAt_read m c _ ht r d hr hd) fun d hd => by
    rw [blk7 m c t d k hd hk, show min (t.val % 23) 21 = t.val % 23 by omega]

/-- of the row before it, first half -/
theorem ha_prev (hj : t.val % 23 < 22) (h0 : t.val / 23 % 4 ≠ 0) (k : ℕ) (hk : k < 256) :
    at2 (uAt m c t.val).ha 7 k = upp (A m c) (256 * (t.val % 23) + k) (1024 * (t.val / 23) - 1) := by
  have ht : t.val < 184 := lt_of_lt_of_eq t.isLt N_0
  rw [uAt_eq, ← at2_mk _ 7 k (by omega) hk, (uph_apply _ _ _ _ _ _).1]
  exact urow_congr (fun d hd => hhAt_prev m c _ ht h0 d hd) fun d hd => by
    rw [blk6 m c t d k hd hk, show min (t.val % 23) 21 = t.val % 23 by omega]

/-- and second half; -/
theorem hg_prev (hj : t.val % 23 < 22) (h0 : t.val / 23 % 4 ≠ 0) (k : ℕ) (hk : k < 256) :
    at2 (uAt m c t.val).hg 7 k = upp (A m c) (5632 + (256 * (t.val % 23) + k)) (1024 * (t.val / 23) - 1) := by
  have ht : t.val < 184 := lt_of_lt_of_eq t.isLt N_0
  rw [uAt_eq, ← at2_mk _ 7 k (by omega) hk, (uph_apply _ _ _ _ _ _).2]
  exact urow_congr (fun d hd => hhAt_prev m c _ ht h0 d hd) fun d hd => by
    rw [blk7 m c t d k hd hk, show min (t.val % 23) 21 = t.val % 23 by omega]

/-- of the row after it, first half -/
theorem ha_next (hj : t.val % 23 < 22) (h0 : t.val / 23 % 4 ≠ 3) (k : ℕ) (hk : k < 256) :
    at2 (uAt m c t.val).ha 8 k = upp (A m c) (256 * (t.val % 23) + k) (1024 * (t.val / 23 + 1)) := by
  have ht : t.val < 184 := lt_of_lt_of_eq t.isLt N_0
  rw [uAt_eq, ← at2_mk _ 8 k (by omega) hk, (uph_apply _ _ _ _ _ _).1]
  exact urow_congr (fun d hd => hhAt_next m c _ ht h0 d hd) fun d hd => by
    rw [blk6 m c t d k hd hk, show min (t.val % 23) 21 = t.val % 23 by omega]

/-- and second half. -/
theorem hg_next (hj : t.val % 23 < 22) (h0 : t.val / 23 % 4 ≠ 3) (k : ℕ) (hk : k < 256) :
    at2 (uAt m c t.val).hg 8 k = upp (A m c) (5632 + (256 * (t.val % 23) + k)) (1024 * (t.val / 23 + 1)) := by
  have ht : t.val < 184 := lt_of_lt_of_eq t.isLt N_0
  rw [uAt_eq, ← at2_mk _ 8 k (by omega) hk, (uph_apply _ _ _ _ _ _).2]
  exact urow_congr (fun d hd => hhAt_next m c _ ht h0 d hd) fun d hd => by
    rw [blk7 m c t d k hd hk, show min (t.val % 23) 21 = t.val % 23 by omega]

/-- A point's step of the down-projection, when the block holds the tiles before. -/
theorem down_read (h : t.val % 23 ≠ 0) (o : Vec Ideal S1024x2048 .f32) (r e : ℕ) (hr : r < 1024) (he : e < 2048)
    (ho : at2 o r e = ∑ n ∈ Finset.range (256 * (t.val % 23 - 1)), pair (A m c) (1024 * (t.val / 23) + r) n * (A m c).wd n e) :
    at2 (down (grid0.coords t) (X m c t) (uAt m c (t.val - 1)) o) r e
      = ∑ n ∈ Finset.range (256 * (t.val % 23)), pair (A m c) (1024 * (t.val / 23) + r) n * (A m c).wd n e := by
  have ht : t.val < 184 := lt_of_lt_of_eq t.isLt N_0
  have hc : (grid0.coords t 0).val = t.val / 23 := (idx_rows t).2.2.2.2.2.2.2.2.2
  rw [← at2_mk _ r e hr he, down_apply, hc, ho]
  have hs : t.val % 23 = t.val % 23 - 1 + 1 := by omega
  rw [show Finset.range (256 * (t.val % 23)) = Finset.range (256 * (t.val % 23 - 1 + 1)) by rw [← hs],
    ← sum_tiles (fun n => pair (A m c) (1024 * (t.val / 23) + r) n * (A m c).wd n e)]
  refine congrArg (_ + ·) (Finset.sum_congr rfl fun k _ => ?_)
  have hk : k.val < 256 := k.2
  rw [blk12 m c t k.val e hk he]
  refine congrArg (· * _) ?_
  let s : Fin cfg0.N := ⟨t.val - 1, lt_of_lt_of_eq (by omega) N_0.symm⟩
  have sm : s.val % 23 = t.val % 23 - 1 := by show (t.val - 1) % 23 = _; omega
  have sd : s.val / 23 = t.val / 23 := by show (t.val - 1) / 23 = _; omega
  have sj : s.val % 23 < 22 := by omega
  unfold pair cv
  refine congrArg₂ act ?_ ?_
  · exact tconv_conv (uAt m c s.val).ua (uAt m c s.val).ha _ _ _ _ _ _ _ (t.val / 23) r k.val hr
      (fun r hr => by rw [ua_read m c s sj r k.val hr hk, sm, sd]) (fun h0 => by rw [ha_prev m c s sj (by rw [sd]; exact h0) k.val hk, sm, sd])
      (fun h0 => by rw [ha_next m c s sj (by rw [sd]; exact h0) k.val hk, sm, sd]) (blk8 m c t 0 k.val (by omega) hk) (blk8 m c t 1 k.val (by omega) hk)
      (blk8 m c t 2 k.val (by omega) hk) (blk10 m c t k.val hk)
  · exact tconv_conv (uAt m c s.val).ug (uAt m c s.val).hg _ _ _ _ _ _ _ (t.val / 23) r k.val hr
      (fun r hr => by rw [ug_read m c s sj r k.val hr hk, sm, sd]) (fun h0 => by rw [hg_prev m c s sj (by rw [sd]; exact h0) k.val hk, sm, sd])
      (fun h0 => by rw [hg_next m c s sj (by rw [sd]; exact h0) k.val hk, sm, sd]) (blk9 m c t 0 k.val (by omega) hk) (blk9 m c t 1 k.val (by omega) hk)
      (blk9 m c t 2 k.val (by omega) hk) (blk11 m c t k.val hk)

/-- Before a tile's last point, the block holds the down-projection of the column tiles so far. -/
theorem oAt_read (i : ℕ) (hi : i < 8) : ∀ j, j < 22 → ∀ r e, r < 1024 → e < 2048 →
    at2 (oAt m c (23 * i + j)) r e = ∑ n ∈ Finset.range (256 * j), pair (A m c) (1024 * i + r) n * (A m c).wd n e := by
  intro j
  induction j with
  | zero =>
    intro _ r e hr he
    have h : oAt m c (23 * i) = k0_pay2 (F := Ideal) := oAt_first m c ⟨23 * i, lt_of_lt_of_eq (by omega) N_0.symm⟩ (by show 23 * i % 23 = 0; omega)
    rw [Nat.add_zero, h, ← at2_mk _ r e hr he, Nat.mul_zero, Finset.sum_range_zero]
    pointwise [k0_pay2]
  | succ j ih =>
    intro hj r e hr he
    have hm : (23 * i + (j + 1)) % 23 = j + 1 := by omega
    have hd : (23 * i + (j + 1)) / 23 = i := by omega
    let t : Fin cfg0.N := ⟨23 * i + (j + 1), lt_of_lt_of_eq (by omega) N_0.symm⟩
    have h := oAt_mid m c t (by show (23 * i + (j + 1)) % 23 ≠ 0; omega) (by show (23 * i + (j + 1)) % 23 ≠ 22; omega)
    have g := down_read m c t (by show (23 * i + (j + 1)) % 23 ≠ 0; omega) (oAt m c (t.val - 1)) r e hr he
      (by show at2 (oAt m c (23 * i + j)) r e = ∑ n ∈ Finset.range (256 * ((23 * i + (j + 1)) % 23 - 1)), pair (A m c) (1024 * ((23 * i + (j + 1)) / 23) + r) n * (A m c).wd n e
          rw [hm, hd]; exact ih (by omega) r e hr he)
    rw [← h] at g
    have g' : at2 (oAt m c (23 * i + (j + 1))) r e = ∑ n ∈ Finset.range (256 * ((23 * i + (j + 1)) % 23)), pair (A m c) (1024 * ((23 * i + (j + 1)) / 23) + r) n * (A m c).wd n e := g
    rw [hm, hd] at g'
    exact g'

/-- After it, the result's rows. -/
theorem oAt_out (h : t.val % 23 = 22) (r : Fin 1024) (d : Fin 2048) : oAt m c t.val (ix2 r d) = out (A m c) (1024 * (t.val / 23) + r.val) d.val := by
  have ht : t.val < 184 := lt_of_lt_of_eq t.isLt N_0
  rw [oAt_last m c t h, final_apply, blk13 m c t d.val d.2]
  unfold out
  refine congrArg (· * _) (rms_congr (fun n hn => ?_) d.val d.2)
  have hb : t.val / 92 = (1024 * (t.val / 23) + r.val) / 4096 := by have := r.2; omega
  rw [blk14 m c t r.val n r.2 hn, blk5 m c t n hn, hb, down_read m c t (by omega) _ r.val n r.2 hn ?_, h]
  · rfl
  · have g := oAt_read m c (t.val / 23) (by omega) 21 (by omega) r.val n r.2 hn
    rw [show 23 * (t.val / 23) + 21 = t.val - 1 by omega] at g
    rw [g, h]

/-- The result of the call as contents of its array. -/
def G : S8192x2048.Idx → EReal := fun i => out (A m c) (i 0).val (i 1).val

/-- What a tile's write-back writes is its block of the result. -/
theorem flushed_eq (hf : (cfg0.win 15).flush t = true) : (dats m 0 c).flushed 15 t = ((cfg0.win 15).blk t).view.read (Elt Ideal) (G m c) := by
  show (cfg0.win 15).cut (grid0.coords t) ((dats m 0 c).after 15 t) = _
  rw [after_15]
  have h : t.val % 23 = 22 := (flush0_15 t).mp hf
  obtain ⟨g0, g1⟩ := (idx_rows t).2.2.2.2.2.2.2.2.1
  funext y
  rw [View.read_apply]
  unfold G
  have f0 : ((((cfg0.win 15).blk t).view.emb y) 0).val = 1024 * (t.val / 23) + (y 0).val := by
    show win0_15.index t 0 * 1024 + 1 * (y 0).val = _; rw [g0]; omega
  have f1 : ((((cfg0.win 15).blk t).view.emb y) 1).val = (y 1).val := by
    show win0_15.index t 1 * 2048 + 1 * (y 1).val = _; rw [g1]; omega
  rw [f0, f1]
  refine Eq.trans ?_ (cast_eq _ _).symm
  have e : (cfg0.win 15).xinj (grid0.coords t) y = ix2 (y 0) (y 1) := by
    funext a; fin_cases a <;> rfl
  show oAt m c t.val ((cfg0.win 15).xinj (grid0.coords t) y) = _
  rw [e]
  exact oAt_out m c t h (y 0) (y 1)

/-- Every entry of the result lies in some tile's block. -/
theorem cover (i : S8192x2048.Idx) : ∃ t : Fin cfg0.N, (cfg0.win 15).flush t = true ∧ i ∈ ((cfg0.win 15).blk t).view.set := by
  have h0 : (i 0).val < 8192 := (i 0).isLt
  have h1 : (i 1).val < 2048 := (i 1).isLt
  have hN : cfg0.N = 184 := N_0
  let t : Fin cfg0.N := ⟨23 * ((i 0).val / 1024) + 22, by omega⟩
  have ht : t.val = 23 * ((i 0).val / 1024) + 22 := rfl
  clear_value t
  obtain ⟨g0, g1⟩ := (idx_rows t).2.2.2.2.2.2.2.2.1
  refine ⟨t, (flush0_15 t).mpr (by omega), ?_⟩
  show i ∈ ((View.whole main_v6).slice (win0_15.rect t)).set
  rw [View.set_slice_whole, Rect.mem_set_unit]
  intro a
  match a with
  | ⟨0, _⟩ => show win0_15.index t 0 * 1024 ≤ (i 0).val ∧ (i 0).val < win0_15.index t 0 * 1024 + 1024; rw [g0]; omega
  | ⟨1, _⟩ => show win0_15.index t 1 * 2048 ≤ (i 1).val ∧ (i 1).val < win0_15.index t 1 * 2048 + 2048; rw [g1]; omega

/-- The result array ends holding the layer's feed-forward part of the arguments. -/
theorem final_o : (dats m 0 c).arrAt 15 cfg0.N = G m c :=
  (dats m 0 c).arrAt_eq_of_cover 15 (G m c) (fun t hf => flushed_eq m c t hf) cover

end Cert.FfnIdeal.Tile

end
-- ==== Proof.FfnRef.lean ====
module

public import proofs.«01_k».proof.Proof.FfnLayer
public import proofs.«01_k».proof.Proof.Gen.FfnReferenceIdeal.Read
public import Idealize.ShloMosaic.Lib.Pointwise

/-! # The feed-forward reference, read one operation after another -/

@[expose] public section

set_option maxRecDepth 16384

noncomputable section

namespace Cert.FfnReferenceIdeal.Ref

open Idealize.ShloMosaic Idealize.ShloMosaic.TcCoe Idealize.SL.Sem Idealize.ShloMosaic.Pointwise Cert.FfnReferenceIdeal Cert.FfnReferenceIdeal.Gen Cert.FfnReferenceIdeal.Read Cert.FfnSpec Cert.Arr
open scoped BigOperators

variable (x0 : (⟨S8192x2048, .f32⟩ : BufTy).Contents (Elt Ideal)) (x1 : (⟨S2048, .f32⟩ : BufTy).Contents (Elt Ideal)) (x2 x3 x4 : (⟨S2x1x2048, .f32⟩ : BufTy).Contents (Elt Ideal))
  (x5 : (⟨S2048x11264, .f32⟩ : BufTy).Contents (Elt Ideal)) (x6 : (⟨S3x11264, .f32⟩ : BufTy).Contents (Elt Ideal)) (x7 : (⟨S11264, .f32⟩ : BufTy).Contents (Elt Ideal))
  (x8 : (⟨S5632x2048, .f32⟩ : BufTy).Contents (Elt Ideal)) (x9 : (⟨S2048, .f32⟩ : BufTy).Contents (Elt Ideal))

/-- An element of a vector, at its coordinate. -/
theorem e1 {a : ℕ} (x : (⟨1, ![a]⟩ : Shape).Idx → EReal) (n : Fin a) : x (ix1 n) = at1 x n.val := at1_mk x n.val n.2

/-- An element of a matrix, at its coordinates. -/
theorem e2 {a b : ℕ} (x : (⟨2, ![a, b]⟩ : Shape).Idx → EReal) (i : Fin a) (n : Fin b) : x (ix2 i n) = at2 x i.val n.val := at2_mk x i.val n.val i.2 n.2

/-- An element of a stack, at its coordinates. -/
theorem e3 {a b d : ℕ} (x : (⟨3, ![a, b, d]⟩ : Shape).Idx → EReal) (i : Fin a) (j : Fin b) (n : Fin d) : x (ix3 i j n) = at3 x i.val j.val n.val :=
  at3_mk x i.val j.val n.val i.2 j.2 n.2

/-- An exponential is at least zero. -/
theorem exp_nonneg (x : EReal) : 0 ≤ Ideal.exp x := by
  induction x with
  | bot => exact le_refl _
  | top => exact le_top
  | coe r => exact EReal.coe_nonneg.mpr (Real.exp_pos r).le

/-- A number times the inverse of its gate's divisor is the number over it. -/
theorem silu (a : EReal) : a * Ideal.div 1 (1 + Ideal.exp (-a)) = Ideal.div a (1 + Ideal.exp (-a)) := by
  have h : (1 + Ideal.exp (-a)) ≠ 0 := by
    have h1 : (0 : EReal) < 1 + Ideal.exp (-a) := lt_of_lt_of_le zero_lt_one (le_add_of_nonneg_right (exp_nonneg _))
    exact h1.ne'
  unfold Ideal.div
  rw [if_neg h, if_neg h, one_mul]

/-- A division by 2048, as the word gives it, is a multiplication by the 2048th part of one. -/
theorem div_2048 (x : EReal) : Ideal.div x (Ideal.ofBits FTy.f32 1157627904#32) = x * ((1 / 2048 : ℝ) : EReal) := by
  rw [show Ideal.ofBits FTy.f32 1157627904#32 = ((2048 : ℝ) : EReal) from word_2048, Ideal.div_coe (by norm_num)]

/-- The word zero, as a number. -/
theorem zero_word : (FloatOps.sitofp FTy.f32 0#32 : Ideal .f32) = (0 : EReal) := by
  show (((0#32 : BitVec 32).toInt : ℝ) : EReal) = 0
  simp

/-- The rows. -/
theorem r0 (b : Fin 2) (t : Fin 4096) (d : Fin 2048) : val_main_v0 (F := Ideal) x0 (ix3 b t d) = at2 x0 (4096 * b.val + t.val) d.val := by
  have hd : d.val < 2048 := d.2
  rw [val_main_v0_apply, at2_idx x0]
  congr 1
  · show ((b.val * 4096 + t.val) * 2048 + d.val) / 2048 = _; omega
  · show ((b.val * 4096 + t.val) * 2048 + d.val) % 2048 = _; omega

/-- The root of a row's mean square, inverted. -/
theorem r8 (b : Fin 2) (t : Fin 4096) (z : Fin 1) :
    val_main_v8 (F := Ideal) x0 (ix3 b t z) = Ideal.rsqrt ((∑ k : Fin 2048, at2 x0 (4096 * b.val + t.val) k.val * at2 x0 (4096 * b.val + t.val) k.val) * ((1 / 2048 : ℝ) : EReal) + eps) := by
  pointwise [val_main_v8, val_main_v7, val_main_v6, val_main_v5, val_main_v4, val_main_v3, val_main_v2, val_main_v1, val_main_cst, val_main_cst_0, val_main_cst_1, r0]
  rw [div_2048]
  rfl

/-- The normalised and modulated rows. -/
theorem r19 (b : Fin 2) (t : Fin 4096) (d : Fin 2048) : val_main_v19 (F := Ideal) x0 x1 x2 x3 (ix3 b t d) = nrow (args x0 x1 x2 x3 x4 x5 x6 x7 x8 x9) (4096 * b.val + t.val) d.val := by
  have hb : (4096 * b.val + t.val) / 4096 = b.val := by have := t.2; omega
  unfold nrow hrow rms
  rw [hb]
  pointwise [val_main_v19, val_main_v18, val_main_v17, val_main_v16, val_main_v15, val_main_v14, val_main_v13, val_main_v12, val_main_v11, val_main_v10, val_main_v9, val_main_cst_2, r8, r0]
  rw [e1 x1, e3 x2, e3 x3]
  rfl

/-- The up-projections. -/
theorem r20 (b : Fin 2) (t : Fin 4096) (n : Fin 11264) : val_main_v20 (F := Ideal) x0 x1 x2 x3 x5 (ix3 b t n) = upp (args x0 x1 x2 x3 x4 x5 x6 x7 x8 x9) n.val (4096 * b.val + t.val) := by
  rw [val_main_v20_apply]
  unfold upp urow
  refine Finset.sum_congr rfl fun k _ => congrArg₂ (· * ·) ?_ ?_
  · exact (congrArg _ (by funext a; match a with | ⟨0, _⟩ => rfl | ⟨1, _⟩ => rfl | ⟨2, _⟩ => rfl)).trans (r19 x0 x1 x2 x3 x4 x5 x6 x7 x8 x9 b t k)
  · exact at2_idx x5 _

/-- The up-projections between two rows of zeros. -/
theorem r21 (b : Fin 2) (t : Fin 4098) (n : Fin 11264) : val_main_v21 (F := Ideal) x0 x1 x2 x3 x5 (ix3 b t n)
    = if 1 ≤ t.val ∧ t.val ≤ 4096 then upp (args x0 x1 x2 x3 x4 x5 x6 x7 x8 x9) n.val (4096 * b.val + (t.val - 1)) else 0 := by
  have e : val_main_v21 (F := Ideal) x0 x1 x2 x3 x5 = pad S2x4098x11264 ![0, 1, 0] ![0, 1, 0] ![0, 0, 0] (val_main_v20 (F := Ideal) x0 x1 x2 x3 x5) (val_main_call0_v0 (F := Ideal)) pads_S2x4096x11264_S2x4098x11264_000_110_000 h_S_ := rfl
  rw [e]
  generalize hy : val_main_v20 (F := Ideal) x0 x1 x2 x3 x5 = y
  pointwise [val_main_call0_v0, val_main_c]
  by_cases h : 1 ≤ t.val ∧ t.val ≤ 4096
  · rw [dif_pos ⟨h.1, by omega⟩, if_pos h, ← hy]
    exact r20 x0 x1 x2 x3 x4 x5 x6 x7 x8 x9 b ⟨t.val - 1, by omega⟩ n
  · rw [dif_neg (by omega), if_neg h]
    exact zero_word

/-- The convolution. -/
theorem r44 (b : Fin 2) (t : Fin 4096) (n : Fin 11264) : val_main_v44 (F := Ideal) x0 x1 x2 x3 x5 x6 x7 (ix3 b t n) = cv (args x0 x1 x2 x3 x4 x5 x6 x7 x8 x9) (4096 * b.val + t.val) n.val := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, r21 x0 x1 x2 x3 x4 x5 x6 x7 x8 x9]
  have ht : t.val < 4096 := t.2
  rw [e2 x6, e2 x6, e2 x6, e1 x7]
  unfold cv conv tap
  generalize upp (args x0 x1 x2 x3 x4 x5 x6 x7 x8 x9) n.val = U
  have hp : (if 1 ≤ t.val ∧ t.val ≤ 4096 then U (4096 * b.val + (t.val - 1)) else 0)
      = (if (4096 * b.val + t.val) % 4096 = 0 then 0 else U (4096 * b.val + t.val - 1)) := by
    by_cases h : t.val = 0
    · rw [if_neg (by omega), if_pos (by omega)]
    · rw [if_pos (by omega), if_neg (by omega)]; congr 1; omega
  have hn : (if 1 ≤ 2 + t.val ∧ 2 + t.val ≤ 4096 then U (4096 * b.val + (2 + t.val - 1)) else 0)
      = (if (4096 * b.val + t.val) % 4096 = 4095 then 0 else U (4096 * b.val + t.val + 1)) := by
    by_cases h : t.val = 4095
    · rw [if_neg (by omega), if_pos (by omega)]
    · rw [if_pos (by omega), if_neg (by omega)]; congr 1; omega
  rw [hp, hn, if_pos (show 1 + t.val ≤ 4096 by omega)]
  rfl

/-- The gated pairs. -/
theorem r48 (b : Fin 2) (t : Fin 4096) (n : Fin 5632) : val_main_v48 (F := Ideal) x0 x1 x2 x3 x5 x6 x7 (ix3 b t n) = pair (args x0 x1 x2 x3 x4 x5 x6 x7 x8 x9) (4096 * b.val + t.val) n.val := by
  pointwise [val_main_v48, val_main_v47, val_main_v46, val_main_v45, val_main_call1_v0, val_main_call1_v1, val_main_call1_v2, val_main_call1_v3, val_main_call1_v4, val_main_call1_v5, val_main_call1_cst, val_main_call1_cst_0, r44 x0 x1 x2 x3 x4 x5 x6 x7 x8 x9]
  rw [silu]
  rfl

/-- The down-projection. -/
theorem r49 (b : Fin 2) (t : Fin 4096) (e : Fin 2048) : val_main_v49 (F := Ideal) x0 x1 x2 x3 x5 x6 x7 x8 (ix3 b t e) = ffn (args x0 x1 x2 x3 x4 x5 x6 x7 x8 x9) (4096 * b.val + t.val) e.val := by
  rw [val_main_v49_apply]
  unfold ffn
  rw [Finset.sum_range]
  refine Finset.sum_congr rfl fun k _ => congrArg₂ (· * ·) ?_ ?_
  · exact (congrArg _ (by funext a; match a with | ⟨0, _⟩ => rfl | ⟨1, _⟩ => rfl | ⟨2, _⟩ => rfl)).trans (r48 x0 x1 x2 x3 x4 x5 x6 x7 x8 x9 b t k)
  · exact at2_idx x8 _

/-- The residual. -/
theorem r52 (b : Fin 2) (t : Fin 4096) (d : Fin 2048) : val_main_v52 (F := Ideal) x0 x1 x2 x3 x4 x5 x6 x7 x8 (ix3 b t d) = res (args x0 x1 x2 x3 x4 x5 x6 x7 x8 x9) (4096 * b.val + t.val) d.val := by
  pointwise [val_main_v52, val_main_v51, val_main_v50, r49 x0 x1 x2 x3 x4 x5 x6 x7 x8 x9, r0]
  have hb : (4096 * b.val + t.val) / 4096 = b.val := by have := t.2; omega
  unfold res
  rw [hb, e3 x4]
  rfl

/-- The root of its mean square, inverted. -/
theorem r60 (b : Fin 2) (t : Fin 4096) (z : Fin 1) :
    val_main_v60 (F := Ideal) x0 x1 x2 x3 x4 x5 x6 x7 x8 (ix3 b t z) = Ideal.rsqrt ((∑ k : Fin 2048, res (args x0 x1 x2 x3 x4 x5 x6 x7 x8 x9) (4096 * b.val + t.val) k.val * res (args x0 x1 x2 x3 x4 x5 x6 x7 x8 x9) (4096 * b.val + t.val) k.val) * ((1 / 2048 : ℝ) : EReal) + eps) := by
  pointwise [val_main_v60, val_main_v59, val_main_v58, val_main_v57, val_main_v56, val_main_v55, val_main_v54, val_main_v53, val_main_cst_3, val_main_cst_4, val_main_cst_5, r52 x0 x1 x2 x3 x4 x5 x6 x7 x8 x9]
  rw [div_2048]
  rfl

/-- The result. -/
theorem r65 (b : Fin 2) (t : Fin 4096) (d : Fin 2048) : val_main_v65 (F := Ideal) x0 x1 x2 x3 x4 x5 x6 x7 x8 x9 (ix3 b t d) = out (args x0 x1 x2 x3 x4 x5 x6 x7 x8 x9) (4096 * b.val + t.val) d.val := by
  unfold out rms
  pointwise [val_main_v65, val_main_v64, val_main_v63, val_main_v62, val_main_v61, r60 x0 x1 x2 x3 x4 x5 x6 x7 x8 x9, r52 x0 x1 x2 x3 x4 x5 x6 x7 x8 x9]
  rw [e1 x9]
  rfl

/-- The reference computes the layer's feed-forward part of its arguments. -/
theorem ref_out (i : S8192x2048.Idx) : val_main_v66 (F := Ideal) x0 x1 x2 x3 x4 x5 x6 x7 x8 x9 i = out (args x0 x1 x2 x3 x4 x5 x6 x7 x8 x9) (i 0).val (i 1).val := by
  have h0 : (i 0).val < 8192 := (i 0).isLt
  have h1 : (i 1).val < 2048 := (i 1).isLt
  rw [val_main_v66_apply]
  have e : idx_main_v66 i = ix3 ⟨(i 0).val / 4096, by omega⟩ ⟨(i 0).val % 4096, by omega⟩ ⟨(i 1).val, h1⟩ := by
    funext a
    match a with
    | ⟨0, _⟩ => exact Fin.ext (by show ((i 0).val * 2048 + (i 1).val) / 8388608 = (i 0).val / 4096; omega)
    | ⟨1, _⟩ => exact Fin.ext (by show ((i 0).val * 2048 + (i 1).val) / 2048 % 4096 = (i 0).val % 4096; omega)
    | ⟨2, _⟩ => exact Fin.ext (by show ((i 0).val * 2048 + (i 1).val) % 2048 = (i 1).val; omega)
  rw [e, r65]
  congr 1
  show 4096 * ((i 0).val / 4096) + (i 0).val % 4096 = _
  omega

end Cert.FfnReferenceIdeal.Ref

end
-- ==== Proof.FfnClaims.lean ====
module

public import proofs.«01_k».proof.Defs
public import proofs.«01_k».proof.Proof.FfnXfer
public import proofs.«01_k».proof.Proof.FfnValue
public import proofs.«01_k».proof.Proof.FfnRef
public import proofs.«01_k».proof.Proof.Gen.FfnReferenceIdeal.Run
public import Idealize.ShloMosaic.Lib.Quiescent

/-! # The claims about the feed-forward call -/

@[expose] public section

set_option maxRecDepth 16384

noncomputable section

namespace Cert.FfnClaims

open Idealize.ShloMosaic Idealize.ShloMosaic.TcCoe Idealize.SL.Sem

/-- The call as run leaves its arguments as they were and its semaphores at zero. -/
theorem frame_p : Cert.quiescent_Ffn := Cert.FfnXfer.frame_p

/-- So does the call over the extended reals. -/
theorem frame_pi : Cert.quiescent_FfnIdeal := fun m ρ _ => Cert.FfnIdeal.Hand.frame (F := Ideal) m ρ

/-- So does the reference over the extended reals. -/
theorem frame_ri : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- No operation is replaced, so there is nothing to preserve. -/
theorem preserves : Cert.preserves_Ffn_FfnIdeal := trivial

/-- The call's result buffer ends holding the layer of its arguments, which are as they were. -/
theorem kernel_value (m : (ℓ : Loc Cert.FfnIdeal.nD Cert.FfnIdeal.τ Cert.FfnIdeal.sig) → Buf (Elt Ideal) ℓ) (ρ : Dev Cert.FfnIdeal.nD → PrngReg) :
    θ_run (Cert.FfnIdeal.defs (F := Ideal)) (onTc (τ := Cert.FfnIdeal.τ) (Cert.FfnIdeal.main (F := Ideal))) ⟨m, fun _ => 0, ρ⟩ (fun r => ∀ c : Dev Cert.FfnIdeal.nD,
      r.2.mem ((c.tc : Thread Cert.FfnIdeal.nD Cert.FfnIdeal.τ).loc Cert.FfnIdeal.main_v6) = Cert.FfnIdeal.Tile.G m c ∧
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0) ∧
      r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1) ∧
      r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2) ∧
      r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3) ∧
      r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4) ∧
      r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5) ∧
      r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6) ∧
      r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7) ∧
      r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8) ∧
      r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)) :=
  (θ_run Cert.FfnIdeal.defs _ _).mono
    (fun r h c => ⟨((h.1 c).1 15).trans (Cert.FfnIdeal.Tile.final_o m c), h.2.1 c⟩)
    (θ_run_and (Cert.FfnIdeal.Hand.run_main m ρ) (Cert.FfnIdeal.Hand.frame (F := Ideal) m ρ))

/-- On all arguments the call's result and the reference's are one array, the layer of the arguments. -/
theorem algebraic : Cert.algebraic_FfnIdeal_FfnReferenceIdeal := by
  intro m ρ m' ρ' _ hag
  refine ⟨fun c => Cert.FfnIdeal.Tile.G m c, kernel_value m ρ, ?_⟩
  refine (θ_run Cert.FfnReferenceIdeal.defs _ _).mono (fun r h c => ⟨(h c).1.trans ?_, (h c).2⟩)
    (Cert.FfnReferenceIdeal.Value.run (F := Ideal) m' ρ')
  obtain ⟨e0, e1, e2, e3, e4, e5, e6, e7, e8, e9⟩ := hag c
  rw [Cert.FfnReferenceIdeal.Read.val_main_v66_eq, e0, e1, e2, e3, e4, e5, e6, e7, e8, e9]
  funext i
  exact Cert.FfnReferenceIdeal.Ref.ref_out _ _ _ _ _ _ _ _ _ _ i

end Cert.FfnClaims

end
-- ==== Proof.OutSpec.lean ====
module

public import proofs.«01_k».proof.Proof.FfnLayer

/-! # What the output projection computes -/

@[expose] public section

set_option maxRecDepth 16384

noncomputable section

namespace Cert.OutSpec

open Idealize.ShloMosaic Idealize.ShloMosaic.Pointwise Cert.FfnSpec Cert.Arr
open scoped BigOperators

/-- A head's row over the root of the mean of its squares, weighted and gated. -/
def head (s g z : ℕ → EReal) (d : ℕ) : EReal :=
  s d * Ideal.rsqrt ((∑ k : Fin 128, s k.val * s k.val) * ((1 / 128 : ℝ) : EReal) + eps) * g d * Ideal.div (z d) (1 + Ideal.exp (-(z d)))

/-- A head reads its rows below 128 only. -/
theorem head_congr {s s' g g' z z' : ℕ → EReal} (hs : ∀ n < 128, s n = s' n) (hg : ∀ n < 128, g n = g' n) (hz : ∀ n < 128, z n = z' n)
    (d : ℕ) (hd : d < 128) : head s g z d = head s' g' z' d := by
  unfold head
  rw [hs d hd, hg d hd, hz d hd, Finset.sum_congr rfl fun k _ => by rw [hs k.val k.2]]

/-- Column `n` of a row of heads of 128 columns each: the two passes `a` and `b` summed, the weights `g` of a head, the gates `z`. -/
def heads (a b g z : ℕ → EReal) (n : ℕ) : EReal :=
  head (fun k => a (128 * (n / 128) + k) + b (128 * (n / 128) + k)) g (fun k => z (128 * (n / 128) + k)) (n % 128)

/-- A row of eight heads reads its rows below 1024 and the weights below 128 only. -/
theorem heads_congr {a a' b b' g g' z z' : ℕ → EReal} (ha : ∀ n < 1024, a n = a' n) (hb : ∀ n < 1024, b n = b' n) (hg : ∀ n < 128, g n = g' n)
    (hz : ∀ n < 1024, z n = z' n) (n : ℕ) (hn : n < 1024) : heads a b g z n = heads a' b' g' z' n := by
  unfold heads
  exact head_congr (fun k hk => by beta_reduce; rw [ha _ (by omega), hb _ (by omega)]) hg (fun k hk => by beta_reduce; rw [hz _ (by omega)]) _ (by omega)

/-- The arguments of the call by their coordinates. -/
structure Args where
  /-- The forward pass. -/
  f : ℕ → ℕ → EReal
  /-- The backward pass. -/
  b : ℕ → ℕ → EReal
  /-- The projections the gates lie in. -/
  p : ℕ → ℕ → EReal
  /-- The weights of a head. -/
  g : ℕ → EReal
  /-- The attention. -/
  o : ℕ → ℕ → EReal
  /-- The output matrix. -/
  w : ℕ → ℕ → EReal
  /-- The rows the result is added to. -/
  x : ℕ → ℕ → EReal
  /-- The gate of each batch. -/
  gate : ℕ → ℕ → EReal

/-- The arguments, out of arrays. -/
def args (x0 x1 : (⟨2, ![8192, 1024]⟩ : Shape).Idx → EReal) (x2 : (⟨2, ![8192, 5120]⟩ : Shape).Idx → EReal) (x3 : (⟨1, ![128]⟩ : Shape).Idx → EReal)
    (x4 : (⟨2, ![8192, 1024]⟩ : Shape).Idx → EReal) (x5 : (⟨2, ![2048, 2048]⟩ : Shape).Idx → EReal) (x6 : (⟨2, ![8192, 2048]⟩ : Shape).Idx → EReal)
    (x7 : (⟨3, ![2, 1, 2048]⟩ : Shape).Idx → EReal) : Args where
  f := at2 x0
  b := at2 x1
  p := at2 x2
  g := at1 x3
  o := at2 x4
  w := at2 x5
  x := at2 x6
  gate b := at3 x7 b 0

variable (A : Args)

/-- The gated heads of a row. -/
def gated (R n : ℕ) : EReal := heads (A.f R) (A.b R) A.g (fun k => A.p R (3072 + k)) n

/-- The output projection of a row: the gated heads times the matrix's first half, the attention times its second. -/
def mix (R d : ℕ) : EReal := (∑ n : Fin 1024, gated A R n.val * A.w n.val d) + ∑ n : Fin 1024, A.o R n.val * A.w (1024 + n.val) d

/-- The result. -/
def out (R d : ℕ) : EReal := A.x R d + A.gate (R / 4096) d * mix A R d

/-- The word 0x3C000000 is the 128th part of one. -/
theorem inv_128 : Ideal.ofBits .f32 0x3C000000#32 = ((1 / 128 : ℝ) : EReal) := by
  simp [Ideal.ofBits, Ideal.ieee]
  rw [← EReal.coe_mul]; norm_num

/-- The word 0x43000000 is 128. -/
theorem word_128 : Ideal.ofBits .f32 0x43000000#32 = ((128 : ℝ) : EReal) := by
  simp [Ideal.ofBits, Ideal.ieee]
  rw [← EReal.coe_mul]; norm_num

end Cert.OutSpec

end
-- ==== Proof.OutRows.lean ====
module

public import proofs.«01_k».proof.Proof.OutSpec
public import proofs.«01_k».proof.Proof.Gen.OutIdeal.Value
public import Idealize.ShloMosaic.Lib.Pointwise

/-! # The output projection's stored values, entry by entry -/

@[expose] public section

set_option maxRecDepth 16384

noncomputable section

namespace Cert.OutIdeal.Rows

open Idealize.ShloMosaic Idealize.ShloMosaic.Pointwise Cert.OutIdeal Cert.OutIdeal.Gen Cert.FfnSpec Cert.OutSpec Cert.Arr
open scoped BigOperators

/-- An element of a matrix, at its coordinates. -/
theorem e2 {a b : ℕ} (x : (⟨2, ![a, b]⟩ : Shape).Idx → EReal) (i : Fin a) (n : Fin b) : x (ix2 i n) = at2 x i.val n.val := at2_mk x i.val n.val i.2 n.2

/-- An element of a stack, at its coordinates. -/
theorem e3 {a b d : ℕ} (x : (⟨3, ![a, b, d]⟩ : Shape).Idx → EReal) (i : Fin a) (j : Fin b) (n : Fin d) : x (ix3 i j n) = at3 x i.val j.val n.val :=
  at3_mk x i.val j.val n.val i.2 j.2 n.2

/-- A stored piece of a head. -/
theorem piece_apply (a b : Vec Ideal S1024x128 .bf16) (g : Vec Ideal S1x128 .f32) (z : Vec Ideal S1024x128 .f32) (r : Fin 1024) (d : Fin 128) :
    k0_pay3 a b g z (ix2 r d) = head (fun k => at2 a r.val k + at2 b r.val k) (at2 g 0) (at2 z r.val) d.val := by
  unfold head
  pointwise [k0_pay3]
  simp only [e2, inv_128, eps, zero_sub]
  rfl

/-- A stored block of the result. -/
theorem out_apply (s : Vec Ideal S1024x1024 .bf16) (w : Vec Ideal S1024x512 .bf16) (o : Vec Ideal S1024x1024 .bf16) (w' : Vec Ideal S1024x512 .bf16)
    (x : Vec Ideal S1024x512 .f32) (gate : Vec Ideal S1x1x512 .f32) (r : Fin 1024) (e : Fin 512) :
    k0_pay2 s w o w' x gate (ix2 r e) = at2 x r.val e.val + at3 gate 0 0 e.val
      * ((∑ n : Fin 1024, at2 s r.val n.val * at2 w n.val e.val) + ∑ n : Fin 1024, at2 o r.val n.val * at2 w' n.val e.val) := by
  pointwise [k0_pay2]
  simp only [e2, e3]
  rfl

end Cert.OutIdeal.Rows

end
-- ==== Proof.OutBlocks.lean ====
module

public import proofs.«01_k».proof.Proof.OutRows
public import proofs.«01_k».proof.Proof.Blocks
public import Idealize.ShloMosaic.Lib.Pipeline.ValueKit.Tiles

/-! # What a point of the output projection stores -/

@[expose] public section

set_option maxRecDepth 16384

noncomputable section

namespace Cert.OutIdeal.Blocks

open Idealize.ShloMosaic Idealize.ShloMosaic.TcCoe Idealize.SL.Sem Idealize.ShloMosaic.Pointwise Cert.OutIdeal Cert.OutIdeal.Gen Cert.OutIdeal.Rows Cert.OutSpec Cert.Arr
open Cert.KernelIdeal.Blocks (at2_ld piece2 hz)
open scoped BigOperators

variable (c : Dev nD) (t : Fin cfg0.N)
variable (x0 x1 : Vec Ideal S1024x1024 .bf16) (x2 : Vec Ideal S1024x1024 .f32) (x3 : Vec Ideal S1x128 .f32) (x4 : Vec Ideal S1024x1024 .bf16)
  (x5 x6 : Vec Ideal S1024x512 .bf16) (x7 : Vec Ideal S1024x512 .f32) (x8 : Vec Ideal S1x1x512 .f32)

/-- The two spellings of a stack's zero corner. -/
theorem hz3 : (![0, 0, 0] : Fin 3 → ℕ) = fun _ => 0 := by funext a; fin_cases a <;> rfl

/-- The gated heads of a block's row. -/
def gblk (r n : ℕ) : EReal := heads (at2 x0 r) (at2 x1 r) (at2 x3 0) (at2 x2 r) n

/-- A stored piece holds the gated heads at its place: columns `q` on, for `q` a multiple of 128. -/
theorem piece_eq (q : ℕ) (hq : q % 128 = 0) (hq' : q < 1024) (i0 i1 i2 i3) (inb) (x : S1024x128.Idx) :
    k0_pay3 (View.ld x0 (Rect.unit (s := S1024x1024) ![0, q] ![1024, 128] i0)) (View.ld x1 (Rect.unit (s := S1024x1024) ![0, q] ![1024, 128] i1))
        (View.ld x3 (Rect.unit (s := S1x128) ![0, 0] ![1, 128] i3)) (View.ld x2 (Rect.unit (s := S1024x1024) ![0, q] ![1024, 128] i2)) x
      = gblk x0 x1 x2 x3 ((Rect.unit (s := S1024x1024) ![0, q] ![1024, 128] inb).emb x 0).val ((Rect.unit (s := S1024x1024) ![0, q] ![1024, 128] inb).emb x 1).val := by
  obtain ⟨i, j, rfl⟩ : ∃ (i : Fin 1024) (j : Fin 128), x = ix2 i j := ⟨x 0, x 1, eq_ix2 x⟩
  have hi : i.val < 1024 := i.isLt
  have hj : j.val < 128 := j.isLt
  refine Eq.trans ?_ (piece2 inb (gblk x0 x1 x2 x3) i j).symm
  have e1 : 128 * ((q + j.val) / 128) = q := by omega
  have e2 : (q + j.val) % 128 = j.val := by omega
  rw [piece_apply]
  unfold gblk heads
  rw [e1, e2]
  refine head_congr (fun k hk => congrArg₂ (· + ·) ?_ ?_) (fun k hk => ?_) (fun k hk => ?_) _ hj
  · exact at2_ld (e := .bf16) x0 _ _ _ hi hk
  · exact at2_ld (e := .bf16) x1 _ _ _ hi hk
  · exact (at2_ld (e := .f32) x3 _ _ _ (by omega) hk).trans (by simp only [Nat.zero_add])
  · exact at2_ld (e := .f32) x2 _ _ _ hi hk

/-- Every piece a row tile's first point stores into the scratch holds the gated heads at its place. -/
theorem pieces_A (h0 : cond0_0 (grid0.coords t)) :
    ∀ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8).2.1,
      ∀ x : p.1.shape.Idx, p.2 x = gblk x0 x1 x2 x3 (p.1.emb x 0).val (p.1.emb x 1).val := by
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp only [List.forall_mem_cons]
  refine ⟨fun x => ?_, fun x => ?_, fun x => ?_, fun x => ?_, fun x => ?_, fun x => ?_, fun x => ?_, fun x => ?_, fun p hp => absurd hp List.not_mem_nil⟩
  · exact piece_eq x0 x1 x2 x3 896 (by norm_num) (by norm_num) _ _ _ _ _ x
  · exact piece_eq x0 x1 x2 x3 768 (by norm_num) (by norm_num) _ _ _ _ _ x
  · exact piece_eq x0 x1 x2 x3 640 (by norm_num) (by norm_num) _ _ _ _ _ x
  · exact piece_eq x0 x1 x2 x3 512 (by norm_num) (by norm_num) _ _ _ _ _ x
  · exact piece_eq x0 x1 x2 x3 384 (by norm_num) (by norm_num) _ _ _ _ _ x
  · exact piece_eq x0 x1 x2 x3 256 (by norm_num) (by norm_num) _ _ _ _ _ x
  · exact piece_eq x0 x1 x2 x3 128 (by norm_num) (by norm_num) _ _ _ _ _ x
  · exact piece_eq x0 x1 x2 x3 0 (by norm_num) (by norm_num) _ _ _ _ _ x

/-- The scratch after a row tile's first point: the gated heads. -/
theorem sout_A (h0 : cond0_0 (grid0.coords t)) (y : S1024x1024.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8 y
      = gblk x0 x1 x2 x3 (y 0).val (y 1).val := by
  unfold sout0_A_0
  rw [View.read_writes_eq_canon _ _ _ (fun y => scover0_A_0 (y := y) ..)]
  exact View.canon_apply_of_pieces (Val := Elt Ideal) (fun y => gblk x0 x1 x2 x3 (y 0).val (y 1).val) _ (pieces_A c t x0 x1 x2 x3 x4 x5 x6 x7 x8 h0) y (scover0_A_0 (y := y) ..)

/-- Row `r`, column `e` of a block of the output, from the point's blocks and the gated heads `K`. -/
def oblk (K : ℕ → ℕ → EReal) (r e : ℕ) : EReal :=
  at2 x7 r e + at3 x8 0 0 e * ((∑ n : Fin 1024, K r n.val * at2 x5 n.val e) + ∑ n : Fin 1024, at2 x4 r n.val * at2 x6 n.val e)

/-- A row of output reads the gated heads of its own row below 1024 only. -/
theorem oblk_congr {K K' : ℕ → ℕ → EReal} (r e : ℕ) (h : ∀ n < 1024, K r n = K' r n) :
    oblk x4 x5 x6 x7 x8 K r e = oblk x4 x5 x6 x7 x8 K' r e := by
  unfold oblk
  rw [Finset.sum_congr rfl fun (n : Fin 1024) _ => by rw [h n.val n.2]]

/-- A stored block of output, from the loads of the point's blocks and the scratch. -/
theorem out_ld (K : Vec Ideal S1024x1024 .bf16) (i4 i5 i6 i7 i8) (x : S1024x512.Idx) (inb) :
    k0_pay2 K (View.ld x5 (Rect.unit (s := S1024x512) ![0, 0] ![1024, 512] i5)) (View.ld x4 (Rect.unit (s := S1024x1024) ![0, 0] ![1024, 1024] i4))
        (View.ld x6 (Rect.unit (s := S1024x512) ![0, 0] ![1024, 512] i6)) (View.ld x7 (Rect.unit (s := S1024x512) ![0, 0] ![1024, 512] i7))
        (View.ld x8 (Rect.unit (s := S1x1x512) ![0, 0, 0] ![1, 1, 512] i8)) x
      = oblk x4 x5 x6 x7 x8 (at2 K) ((Rect.unit (s := S1024x512) ![0, 0] ![1024, 512] inb).emb x 0).val ((Rect.unit (s := S1024x512) ![0, 0] ![1024, 512] inb).emb x 1).val := by
  obtain ⟨i, j, rfl⟩ : ∃ (i : Fin 1024) (j : Fin 512), x = ix2 i j := ⟨x 0, x 1, eq_ix2 x⟩
  refine Eq.trans ?_ (piece2 inb (oblk x4 x5 x6 x7 x8 (at2 K)) i j).symm
  rw [View.ld_unit_zero hz, View.ld_unit_zero hz, View.ld_unit_zero hz, View.ld_unit_zero hz, View.ld_unit_zero hz3, Nat.zero_add, Nat.zero_add]
  exact out_apply K x5 x4 x6 x7 x8 i j

/-- What a point after a row tile's first leaves in its output block. -/
theorem out_B (h0 : ¬cond0_0 (grid0.coords t)) (K : Vec Ideal S1024x1024 .bf16) (y : S1024x512.Idx) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8 K y
      = oblk x4 x5 x6 x7 x8 (at2 K) (y 0).val (y 1).val := by
  unfold out0_B_9
  rw [View.read_writes_eq_canon _ _ _ (fun y => cover0_B_9 (y := y) ..)]
  refine View.canon_apply_of_pieces (Val := Elt Ideal) (fun y => oblk x4 x5 x6 x7 x8 (at2 K) (y 0).val (y 1).val) _ ?_ y (cover0_B_9 (y := y) ..)
  unfold kernelRun0_B
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread]
  simp only [List.forall_mem_cons]
  refine ⟨fun x => ?_, fun p hp => absurd hp List.not_mem_nil⟩
  refine (out_ld x4 x5 x6 x7 x8 _ _ _ _ _ _ x inb_S1024x512_S1024x512_0_0).trans ?_
  rw [View.ld_unit_zero hz]

/-- The gated heads a row tile's first point reads back from the scratch it has just filled. -/
theorem heads_A (h0 : cond0_0 (grid0.coords t)) (inb) (r n : ℕ) (hr : r < 1024) (hn : n < 1024) :
    at2 ((View.whole cc0_scratch0).readCov (Val := Elt Ideal) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8).2.1
        (Rect.unit (s := S1024x1024) ![0, 0] ![1024, 1024] inb).toLoadRect) r n = gblk x0 x1 x2 x3 r n := by
  rw [View.readCov_eq_canon_ld _ _ _ (fun y => scover0_A_0 (y := y) ..), View.ld_unit_zero hz, ← at2_mk _ r n hr hn]
  exact View.canon_apply_of_pieces (Val := Elt Ideal) (fun y => gblk x0 x1 x2 x3 (y 0).val (y 1).val) _ (pieces_A c t x0 x1 x2 x3 x4 x5 x6 x7 x8 h0) _ (scover0_A_0 (y := _) ..)

/-- What a row tile's first point leaves in its output block. -/
theorem out_A (h0 : cond0_0 (grid0.coords t)) (y : S1024x512.Idx) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) h0 x0 x1 x2 x3 x4 x5 x6 x7 x8 y
      = oblk x4 x5 x6 x7 x8 (gblk x0 x1 x2 x3) (y 0).val (y 1).val := by
  have hk := fun (inb) (r : ℕ) (hr : r < 1024) (n : ℕ) (hn : n < 1024) => heads_A c t x0 x1 x2 x3 x4 x5 x6 x7 x8 h0 inb r n hr hn
  revert hk
  unfold out0_A_9
  rw [View.read_writes_eq_canon _ _ _ (fun y => cover0_A_9 (y := y) ..)]
  intro hk
  refine View.canon_apply_of_pieces (Val := Elt Ideal) (fun y => oblk x4 x5 x6 x7 x8 (gblk x0 x1 x2 x3) (y 0).val (y 1).val) _ ?_ y (cover0_A_9 (y := y) ..)
  revert hk
  unfold kernelRun0_A
  dsimp only
  sl_unfold_run_names
  simp only [View.readAt_eq_ld, (hs0_4 t).read_unread, (hs0_5 t).read_unread, (hs0_6 t).read_unread, (hs0_7 t).read_unread, (hs0_8 t).read_unread]
  intro hk
  simp only [List.forall_mem_cons]
  refine ⟨fun x => ?_, fun p hp => absurd hp List.not_mem_nil⟩
  have hb : ∀ (inb : ∀ a : Fin 2, (![0, 0] : Fin 2 → ℕ) a + (![1024, 512] : Fin 2 → ℕ) a ≤ S1024x512.size a), ((Rect.unit (s := S1024x512) ![0, 0] ![1024, 512] inb).emb x 0).val < 1024 := fun inb => Fin.isLt _
  exact (out_ld x4 x5 x6 x7 x8 _ _ _ _ _ _ x inb_S1024x512_S1024x512_0_0).trans (oblk_congr _ _ _ _ _ _ _ (hk _ _ (hb _)))

end Cert.OutIdeal.Blocks

end
-- ==== Proof.OutValue.lean ====
module

public import proofs.«01_k».proof.Proof.OutBlocks
public import proofs.«01_k».proof.Proof.FfnTile

/-! # What the output projection leaves in its result -/

@[expose] public section

set_option maxRecDepth 16384

noncomputable section

namespace Cert.OutIdeal.Tile

open Idealize.ShloMosaic Idealize.ShloMosaic.TcCoe Idealize.SL.Sem Idealize.ShloMosaic.Pointwise Cert.OutIdeal Cert.OutIdeal.Gen Cert.OutIdeal.Blocks Cert.OutSpec Cert.Arr
open Cert.FfnSpec (at1 at1_mk)
open Cert.FfnIdeal.Tile (rd2 rd3)
open Idealize.ShloMosaic.Pipeline (Dat)
open scoped BigOperators

/-- Where each window's block begins at a point, in blocks. -/
theorem idx_facts : ∀ t : Fin grid0.N,
    (win0_0.index t 0 = t.val / 4 ∧ win0_0.index t 1 = 0)
    ∧ (win0_1.index t 0 = t.val / 4 ∧ win0_1.index t 1 = 0)
    ∧ (win0_2.index t 0 = t.val / 4 ∧ win0_2.index t 1 = 3)
    ∧ (win0_3.index t 0 = 0 ∧ win0_3.index t 1 = 0)
    ∧ (win0_4.index t 0 = t.val / 4 ∧ win0_4.index t 1 = 0)
    ∧ (win0_5.index t 0 = 0 ∧ win0_5.index t 1 = t.val % 4)
    ∧ (win0_6.index t 0 = 1 ∧ win0_6.index t 1 = t.val % 4)
    ∧ (win0_7.index t 0 = t.val / 4 ∧ win0_7.index t 1 = t.val % 4)
    ∧ (win0_8.index t 0 = t.val / 16 ∧ win0_8.index t 1 = 0 ∧ win0_8.index t 2 = t.val % 4)
    ∧ (win0_9.index t 0 = t.val / 4 ∧ win0_9.index t 1 = t.val % 4) := by
  decide +kernel

variable (m : (ℓ : Loc nD τ sig) → Buf (Elt Ideal) ℓ) (c : Dev nD)

/-- The call's arguments, out of the arrays as they were given. -/
def A : Args := args (m (c, main_arg0)) (m (c, main_arg1)) (m (c, main_arg2)) (m (c, main_arg3)) (m (c, main_arg4)) (m (c, main_arg5))
  (m (c, main_arg6)) (m (c, main_arg7))

/-- The output matrix in the products' type is the argument. -/
theorem V_v0 : V m c main_v0 = m (c, main_arg5) := by
  unfold V
  after_results
  rfl

/-- The weights of a head as a row. -/
theorem V_v1 (n : ℕ) (hn : n < 128) : at2 (V m c main_v1) 0 n = (A m c).g n := by
  refine (at2_mk _ 0 n (by omega) hn).symm.trans (Eq.trans ?_ (at1_mk _ n hn))
  unfold V
  after_results
  pointwise []

variable (t : Fin cfg0.N)

/-- The forward pass's block. -/
theorem blk0 (r n : ℕ) (hr : r < 1024) (hn : n < 1024) : at2 (iblk m c 0 t) r n = (A m c).f (1024 * (t.val / 4) + r) n := by
  obtain ⟨h0, h1⟩ := (idx_facts t).1
  refine (rd2 (iblk m c 0 t) (V m c main_arg0) _ (fun i => by unfold iblk; exact View.read_apply ..) hr hn ?_ ?_).trans (by rw [V_main_arg0]; rfl)
  · show win0_0.index t 0 * 1024 + 1 * r = _; rw [h0]; omega
  · show win0_0.index t 1 * 1024 + 1 * n = n; rw [h1]; omega

/-- The backward pass's block. -/
theorem blk1 (r n : ℕ) (hr : r < 1024) (hn : n < 1024) : at2 (iblk m c 1 t) r n = (A m c).b (1024 * (t.val / 4) + r) n := by
  obtain ⟨h0, h1⟩ := (idx_facts t).2.1
  refine (rd2 (iblk m c 1 t) (V m c main_arg1) _ (fun i => by unfold iblk; exact View.read_apply ..) hr hn ?_ ?_).trans (by rw [V_main_arg1]; rfl)
  · show win0_1.index t 0 * 1024 + 1 * r = _; rw [h0]; omega
  · show win0_1.index t 1 * 1024 + 1 * n = n; rw [h1]; omega

/-- The gates' block. -/
theorem blk2 (r n : ℕ) (hr : r < 1024) (hn : n < 1024) : at2 (iblk m c 2 t) r n = (A m c).p (1024 * (t.val / 4) + r) (3072 + n) := by
  obtain ⟨h0, h1⟩ := (idx_facts t).2.2.1
  refine (rd2 (iblk m c 2 t) (V m c main_arg2) _ (fun i => by unfold iblk; exact View.read_apply ..) hr hn ?_ ?_).trans (by rw [V_main_arg2]; rfl)
  · show win0_2.index t 0 * 1024 + 1 * r = _; rw [h0]; omega
  · show win0_2.index t 1 * 1024 + 1 * n = _; rw [h1]; omega

/-- The weights of a head. -/
theorem blk3 (n : ℕ) (hn : n < 128) : at2 (iblk m c 3 t) 0 n = (A m c).g n := by
  obtain ⟨h0, h1⟩ := (idx_facts t).2.2.2.1
  refine (rd2 (i' := 0) (j' := n) (iblk m c 3 t) (V m c main_v1) _ (fun i => by unfold iblk; exact View.read_apply ..) (by omega) hn ?_ ?_).trans (V_v1 m c n hn)
  · show win0_3.index t 0 * 1 + 1 * 0 = _; rw [h0]
  · show win0_3.index t 1 * 128 + 1 * n = n; rw [h1]; omega

/-- The attention's block. -/
theorem blk4 (r n : ℕ) (hr : r < 1024) (hn : n < 1024) : at2 (iblk m c 4 t) r n = (A m c).o (1024 * (t.val / 4) + r) n := by
  obtain ⟨h0, h1⟩ := (idx_facts t).2.2.2.2.1
  refine (rd2 (iblk m c 4 t) (V m c main_arg4) _ (fun i => by unfold iblk; exact View.read_apply ..) hr hn ?_ ?_).trans (by rw [V_main_arg4]; rfl)
  · show win0_4.index t 0 * 1024 + 1 * r = _; rw [h0]; omega
  · show win0_4.index t 1 * 1024 + 1 * n = n; rw [h1]; omega

/-- The block of the matrix's first half. -/
theorem blk5 (k e : ℕ) (hk : k < 1024) (he : e < 512) : at2 (iblk m c 5 t) k e = (A m c).w k (512 * (t.val % 4) + e) := by
  obtain ⟨h0, h1⟩ := (idx_facts t).2.2.2.2.2.1
  refine (rd2 (iblk m c 5 t) (V m c main_v0) _ (fun i => by unfold iblk; exact View.read_apply ..) hk he ?_ ?_).trans (by rw [V_v0]; rfl)
  · show win0_5.index t 0 * 1024 + 1 * k = k; rw [h0]; omega
  · show win0_5.index t 1 * 512 + 1 * e = _; rw [h1]; omega

/-- The block of its second half. -/
theorem blk6 (k e : ℕ) (hk : k < 1024) (he : e < 512) : at2 (iblk m c 6 t) k e = (A m c).w (1024 + k) (512 * (t.val % 4) + e) := by
  obtain ⟨h0, h1⟩ := (idx_facts t).2.2.2.2.2.2.1
  refine (rd2 (iblk m c 6 t) (V m c main_v0) _ (fun i => by unfold iblk; exact View.read_apply ..) hk he ?_ ?_).trans (by rw [V_v0]; rfl)
  · show win0_6.index t 0 * 1024 + 1 * k = _; rw [h0]; omega
  · show win0_6.index t 1 * 512 + 1 * e = _; rw [h1]; omega

/-- The block of the rows the result is added to. -/
theorem blk7 (r e : ℕ) (hr : r < 1024) (he : e < 512) : at2 (iblk m c 7 t) r e = (A m c).x (1024 * (t.val / 4) + r) (512 * (t.val % 4) + e) := by
  obtain ⟨h0, h1⟩ := (idx_facts t).2.2.2.2.2.2.2.1
  refine (rd2 (iblk m c 7 t) (V m c main_arg6) _ (fun i => by unfold iblk; exact View.read_apply ..) hr he ?_ ?_).trans (by rw [V_main_arg6]; rfl)
  · show win0_7.index t 0 * 1024 + 1 * r = _; rw [h0]; omega
  · show win0_7.index t 1 * 512 + 1 * e = _; rw [h1]; omega

/-- The batch's gate. -/
theorem blk8 (e : ℕ) (he : e < 512) : at3 (iblk m c 8 t) 0 0 e = (A m c).gate (t.val / 16) (512 * (t.val % 4) + e) := by
  obtain ⟨h0, h1, h2⟩ := (idx_facts t).2.2.2.2.2.2.2.2.1
  refine (rd3 (iblk m c 8 t) (V m c main_arg7) _ (fun i => by unfold iblk; exact View.read_apply ..) (by omega) (by omega) he ?_ ?_ ?_).trans (by rw [V_main_arg7]; rfl)
  · show win0_8.index t 0 * 1 + 1 * 0 = _; rw [h0]; omega
  · show win0_8.index t 1 * 1 + 1 * 0 = _; rw [h1]
  · show win0_8.index t 2 * 512 + 1 * e = _; rw [h2]; omega

/-- The gated heads of a point's blocks are those of its row tile. -/
theorem gblk_full (r n : ℕ) (hr : r < 1024) (hn : n < 1024) :
    gblk (iblk m c 0 t) (iblk m c 1 t) (iblk m c 2 t) (iblk m c 3 t) r n = gated (A m c) (1024 * (t.val / 4) + r) n := by
  unfold gblk gated
  exact heads_congr (fun k hk => blk0 m c t r k hr hk) (fun k hk => blk1 m c t r k hr hk) (fun k hk => blk3 m c t k hk)
    (fun k hk => blk2 m c t r k hr hk) n hn

/-- At a row tile's first point the scratch ends holding the tile's gated heads. -/
theorem scratch_A (h0 : t.val % 4 = 0) (r n : ℕ) (hr : r < 1024) (hn : n < 1024) :
    at2 (outsAt0 m c t.val t.isLt).2 r n = gated (A m c) (1024 * (t.val / 4) + r) n := by
  rw [congrArg Prod.snd (outsAt0_A m c t h0)]
  dsimp only
  rw [← at2_mk _ r n hr hn, sout_A]
  exact gblk_full m c t r n hr hn

/-- At any other point the scratch is left as it was. -/
theorem scratch_B (h0 : ¬t.val % 4 = 0) :
    (outsAt0 m c t.val t.isLt).2 = (outsAt0 m c (t.val - 1) (Nat.lt_of_le_of_lt (Nat.sub_le _ _) t.isLt)).2 := by
  rw [congrArg Prod.snd (outsAt0_B m c t h0)]
  rfl

/-- After every point the scratch holds the gated heads of the point's row tile. -/
theorem scratch (q : ℕ) : ∀ (hq : q < cfg0.N) (r : ℕ) (_ : r < 1024) (n : ℕ) (_ : n < 1024),
    at2 (outsAt0 m c q hq).2 r n = gated (A m c) (1024 * (q / 4) + r) n := by
  induction q with
  | zero => exact fun hq r hr n hn => scratch_A m c ⟨0, hq⟩ (Nat.zero_mod 4) r n hr hn
  | succ q ih =>
    intro hq r hr n hn
    by_cases h : (q + 1) % 4 = 0
    · exact scratch_A m c ⟨q + 1, hq⟩ h r n hr hn
    · have e1 : (q + 1) / 4 = q / 4 := by omega
      rw [e1]
      exact (congrArg (fun X => at2 X r n) (scratch_B m c ⟨q + 1, hq⟩ h)).trans (ih (Nat.lt_of_succ_lt hq) r hr n hn)

/-- A point's block of the result from its blocks, when `K` agrees with the gated heads of its row tile. -/
theorem oblk_full (K : ℕ → ℕ → EReal) (r e : ℕ) (hr : r < 1024) (he : e < 512) (hK : ∀ n < 1024, K r n = gated (A m c) (1024 * (t.val / 4) + r) n) :
    oblk (iblk m c 4 t) (iblk m c 5 t) (iblk m c 6 t) (iblk m c 7 t) (iblk m c 8 t) K r e
      = out (A m c) (1024 * (t.val / 4) + r) (512 * (t.val % 4) + e) := by
  have e1 : (1024 * (t.val / 4) + r) / 4096 = t.val / 16 := by omega
  unfold oblk out mix
  rw [e1, blk7 m c t r e hr he, blk8 m c t e he]
  refine congrArg₂ (· + ·) rfl (congrArg₂ (· * ·) rfl (congrArg₂ (· + ·) ?_ ?_))
  · exact Finset.sum_congr rfl fun n _ => by rw [hK n.val n.2, blk5 m c t n.val e n.2 he]
  · exact Finset.sum_congr rfl fun n _ => by rw [blk4 m c t r n.val hr n.2, blk6 m c t n.val e n.2 he]

/-- The output projection as contents of the result array. -/
def G : S8192x2048.Idx → EReal := fun i => out (A m c) (i 0).val (i 1).val

/-- What a point's write-back writes is its block of the output projection. -/
theorem flushed_eq : (dats m 0 c).flushed 9 t = ((cfg0.win 9).blk t).view.read (Elt Ideal) (G m c) := by
  obtain ⟨g0, g1⟩ := (idx_facts t).2.2.2.2.2.2.2.2.2
  have key : ∀ y : S1024x512.Idx, out (A m c) (1024 * (t.val / 4) + (y 0).val) (512 * (t.val % 4) + (y 1).val)
      = ((cfg0.win 9).blk t).view.read (Elt Ideal) (G m c) y := by
    intro y
    rw [View.read_apply]
    unfold G
    have f0 : ((((cfg0.win 9).blk t).view.emb y) 0).val = 1024 * (t.val / 4) + (y 0).val := by
      show win0_9.index t 0 * 1024 + 1 * (y 0).val = _; rw [g0]; omega
    have f1 : ((((cfg0.win 9).blk t).view.emb y) 1).val = 512 * (t.val % 4) + (y 1).val := by
      show win0_9.index t 1 * 512 + 1 * (y 1).val = _; rw [g1]; omega
    rw [f0, f1]
    exact (cast_eq _ _).symm
  by_cases h0 : t.val % 4 = 0
  · rw [Value.flushed9_A m c t h0]
    funext y
    exact ((out_A c t _ _ _ _ _ _ _ _ _ _ y).trans (oblk_full m c t _ _ _ (y 0).isLt (y 1).isLt
      (fun n hn => gblk_full m c t _ n (y 0).isLt hn))).trans (key y)
  · rw [Value.flushed9_B m c t h0]
    funext y
    have e1 : (t.val - 1) / 4 = t.val / 4 := by omega
    refine ((out_B c t _ _ _ _ _ _ _ _ _ _ _ y).trans (oblk_full m c t _ _ _ (y 0).isLt (y 1).isLt (fun n hn => ?_))).trans (key y)
    rw [scratch m c (t.val - 1) _ _ (y 0).isLt n hn, e1]

/-- Every entry of the result lies in some point's block. -/
theorem cover (i : S8192x2048.Idx) : ∃ t : Fin cfg0.N, (cfg0.win 9).flush t = true ∧ i ∈ ((cfg0.win 9).blk t).view.set := by
  have h0 : (i 0).val < 8192 := (i 0).isLt
  have h1 : (i 1).val < 2048 := (i 1).isLt
  have hN : cfg0.N = 32 := N_0
  let t : Fin cfg0.N := ⟨4 * ((i 0).val / 1024) + (i 1).val / 512, by omega⟩
  have ht : t.val = 4 * ((i 0).val / 1024) + (i 1).val / 512 := rfl
  clear_value t
  obtain ⟨g0, g1⟩ := (idx_facts t).2.2.2.2.2.2.2.2.2
  refine ⟨t, flush0_9 t, ?_⟩
  show i ∈ ((View.whole main_v2).slice (win0_9.rect t)).set
  rw [View.set_slice_whole, Rect.mem_set_unit]
  intro a
  match a with
  | ⟨0, _⟩ => show win0_9.index t 0 * 1024 ≤ (i 0).val ∧ (i 0).val < win0_9.index t 0 * 1024 + 1024; rw [g0]; omega
  | ⟨1, _⟩ => show win0_9.index t 1 * 512 ≤ (i 1).val ∧ (i 1).val < win0_9.index t 1 * 512 + 512; rw [g1]; omega

/-- The result array ends holding the output projection. -/
theorem final_o : (dats m 0 c).arrAt 9 cfg0.N = G m c :=
  (dats m 0 c).arrAt_eq_of_cover 9 (G m c) (fun t _ => flushed_eq m c t) cover

end Cert.OutIdeal.Tile

end
-- ==== Proof.OutRef.lean ====
module

public import proofs.«01_k».proof.Proof.OutSpec
public import proofs.«01_k».proof.Proof.FfnRef
public import proofs.«01_k».proof.Proof.Gen.OutReferenceIdeal.Read
public import Idealize.ShloMosaic.Lib.Pointwise

/-! # The output projection's reference, read one operation after another -/

@[expose] public section

set_option maxRecDepth 16384

noncomputable section

namespace Cert.OutReferenceIdeal.Ref

open Idealize.ShloMosaic Idealize.ShloMosaic.TcCoe Idealize.SL.Sem Idealize.ShloMosaic.Pointwise Cert.OutReferenceIdeal Cert.OutReferenceIdeal.Gen Cert.OutReferenceIdeal.Read Cert.OutSpec Cert.Arr
open Cert.FfnSpec (at1 at1_mk eps)
open Cert.FfnReferenceIdeal.Ref (e1 e2 e3 silu)
open scoped BigOperators

variable (x0 x1 : (⟨S8192x1024, .bf16⟩ : BufTy).Contents (Elt Ideal)) (x2 : (⟨S8192x5120, .f32⟩ : BufTy).Contents (Elt Ideal)) (x3 : (⟨S128, .f32⟩ : BufTy).Contents (Elt Ideal))
  (x4 : (⟨S8192x1024, .bf16⟩ : BufTy).Contents (Elt Ideal)) (x5 : (⟨S2048x2048, .f32⟩ : BufTy).Contents (Elt Ideal)) (x6 : (⟨S8192x2048, .f32⟩ : BufTy).Contents (Elt Ideal))
  (x7 : (⟨S2x1x2048, .f32⟩ : BufTy).Contents (Elt Ideal))

/-- An index of a rank-four array, of its coordinates. -/
def ix4 (b : Fin 2) (t : Fin 4096) (h : Fin 8) (d : Fin 128) : S2x4096x8x128.Idx := fun a => match a with
  | ⟨0, _⟩ => b
  | ⟨1, _⟩ => t
  | ⟨2, _⟩ => h
  | ⟨3, _⟩ => d

/-- A division by 128, as the word gives it, is a multiplication by the 128th part of one. -/
theorem div_128 (x : EReal) : Ideal.div x (Ideal.ofBits FTy.f32 0x43000000#32) = x * ((1 / 128 : ℝ) : EReal) := by
  rw [word_128, Ideal.div_coe (by norm_num)]

variable (b : Fin 2) (t : Fin 4096) (h : Fin 8) (d : Fin 128)

/-- The two passes summed, head by head. -/
theorem r4 : val_main_v4 (F := Ideal) x0 x1 (ix4 b t h d) = at2 x0 (4096 * b.val + t.val) (128 * h.val + d.val) + at2 x1 (4096 * b.val + t.val) (128 * h.val + d.val) := by
  have hh : h.val < 8 := h.2
  have hd : d.val < 128 := d.2
  rw [val_main_v4_apply, val_main_v1_apply, val_main_v3_apply, val_main_v0_apply, val_main_v2_apply, at2_idx x0, at2_idx x1]
  refine congrArg₂ (· + ·) (congrArg₂ (at2 x0) ?_ ?_) (congrArg₂ (at2 x1) ?_ ?_)
  · show (((b.val * 4096 + t.val) * 8 + h.val) * 128 + d.val) / 1024 = _; omega
  · show (((b.val * 4096 + t.val) * 8 + h.val) * 128 + d.val) % 1024 = _; omega
  · show (((b.val * 4096 + t.val) * 8 + h.val) * 128 + d.val) / 1024 = _; omega
  · show (((b.val * 4096 + t.val) * 8 + h.val) * 128 + d.val) % 1024 = _; omega

/-- The gates, head by head. -/
theorem r19 : val_main_v19 (F := Ideal) x2 (ix4 b t h d) = at2 x2 (4096 * b.val + t.val) (3072 + (128 * h.val + d.val)) := by
  have hh : h.val < 8 := h.2
  have hd : d.val < 128 := d.2
  rw [val_main_v19_apply, val_main_v18_apply, at2_idx x2]
  refine congrArg₂ (at2 x2) ?_ ?_
  · show (((b.val * 4096 + t.val) * 8 + h.val) * 128 + d.val) / 1024 = _; omega
  · show 3072 + (((b.val * 4096 + t.val) * 8 + h.val) * 128 + d.val) % 1024 = _; omega

/-- The mean of a head's squares. -/
theorem r6 (i : S2x4096x8.Idx) (h0 : (i 0).val = b.val) (h1 : (i 1).val = t.val) (h2 : (i 2).val = h.val) :
    val_main_v6 (F := Ideal) x0 x1 i = ∑ k : Fin 128, (at2 x0 (4096 * b.val + t.val) (128 * h.val + k.val) + at2 x1 (4096 * b.val + t.val) (128 * h.val + k.val))
      * (at2 x0 (4096 * b.val + t.val) (128 * h.val + k.val) + at2 x1 (4096 * b.val + t.val) (128 * h.val + k.val)) := by
  rw [val_main_v6_apply, val_main_cst_apply]
  refine (congrArg (· + _) (Ideal.ofBits_zero_f32)).trans ((zero_add _).trans ?_)
  refine Finset.sum_congr rfl fun k _ => ?_
  have e : idx_main_v6 i k = ix4 b t h k := by
    funext a
    match a with
    | ⟨0, _⟩ => exact Fin.ext h0
    | ⟨1, _⟩ => exact Fin.ext h1
    | ⟨2, _⟩ => exact Fin.ext h2
    | ⟨3, _⟩ => rfl
  rw [val_main_v5_apply, e, r4]
  rfl

/-- The gated heads, head by head. -/
theorem r21 : val_main_v21 (F := Ideal) x0 x1 x2 x3 (ix4 b t h d) = gated (args x0 x1 x2 x3 x4 x5 x6 x7) (4096 * b.val + t.val) (128 * h.val + d.val) := by
  have hd : d.val < 128 := d.2
  have q1 : 128 * ((128 * h.val + d.val) / 128) = 128 * h.val := by omega
  have q2 : (128 * h.val + d.val) % 128 = d.val := by omega
  rw [val_main_v21_apply, val_main_v17_apply, val_main_v14_apply, val_main_v13_apply, val_main_v12_apply, val_main_v11_apply, val_main_v9_apply, val_main_v7_apply,
    val_main_v8_apply, val_main_cst_0_apply, val_main_v10_apply, val_main_cst_1_apply, val_main_v16_apply, val_main_v15_apply, val_main_v20_apply,
    val_main_call0_v5_apply, val_main_call0_v4_apply, val_main_call0_cst_0_apply, val_main_call0_v3_apply, val_main_call0_v2_apply, val_main_call0_cst_apply,
    val_main_call0_v1_apply, val_main_call0_v0_apply, r4, r19, r6 x0 x1 b t h _ rfl rfl rfl]
  have eg : x3 (idx_main_v15 (idx_main_v16 (ix4 b t h d))) = at1 x3 d.val :=
    (congrArg x3 (by funext a; match a with | ⟨0, _⟩ => rfl)).trans (at1_mk x3 d.val hd)
  rw [eg]
  unfold gated heads head
  rw [q1, q2]
  refine congrArg₂ (· * ·) (congrArg₂ (· * ·) (congrArg₂ (· * ·) rfl (congrArg Ideal.rsqrt (congrArg₂ (· + ·) (div_128 _) rfl))) rfl) ?_
  have one : Ideal.ofBits FTy.f32 0x3F800000#32 = 1 := Ideal.ofBits_one_f32
  have s := silu (at2 x2 (4096 * b.val + t.val) (3072 + (128 * h.val + d.val)))
  rw [← one] at s
  refine Eq.trans (Eq.trans rfl s) ?_
  rw [one]
  rfl

/-- The gated heads and the attention side by side, times the matrix. -/
theorem r26 (e : Fin 2048) : val_main_v26 (F := Ideal) x0 x1 x2 x3 x4 x5 (ix3 b t e) = mix (args x0 x1 x2 x3 x4 x5 x6 x7) (4096 * b.val + t.val) e.val := by
  have ht : t.val < 4096 := t.2
  rw [val_main_v26_apply]
  unfold mix
  refine (Fin.sum_univ_add (a := 1024) (b := 1024) _).trans (congrArg₂ (· + ·) ?_ ?_)
  · refine Finset.sum_congr rfl fun k _ => congrArg₂ (· * ·) ?_ (at2_idx x5 _)
    have hk : k.val < 1024 := k.2
    have hv : ∀ y : S2x4096x1024.Idx, (y 0).val = b.val → (y 1).val = t.val → (y 2).val = k.val →
        val_main_v22 (F := Ideal) x0 x1 x2 x3 y = gated (args x0 x1 x2 x3 x4 x5 x6 x7) (4096 * b.val + t.val) k.val := by
      intro y y0 y1 y2
      rw [val_main_v22_apply]
      have ey : idx_main_v22 y = ix4 b t ⟨k.val / 128, by omega⟩ ⟨k.val % 128, by omega⟩ := by
        funext a
        match a with
        | ⟨0, _⟩ => exact Fin.ext (by show (((y 0).val * 4096 + (y 1).val) * 1024 + (y 2).val) / 4194304 = b.val; omega)
        | ⟨1, _⟩ => exact Fin.ext (by show (((y 0).val * 4096 + (y 1).val) * 1024 + (y 2).val) / 1024 % 4096 = t.val; omega)
        | ⟨2, _⟩ => exact Fin.ext (by show (((y 0).val * 4096 + (y 1).val) * 1024 + (y 2).val) / 128 % 8 = k.val / 128; omega)
        | ⟨3, _⟩ => exact Fin.ext (by show (((y 0).val * 4096 + (y 1).val) * 1024 + (y 2).val) % 128 = k.val % 128; omega)
      rw [ey, r21 x0 x1 x2 x3 x4 x5 x6 x7]
      congr 1
      show 128 * (k.val / 128) + k.val % 128 = k.val
      omega
    have ec : lidx_main_v26 (ix3 b t e) (Fin.castAdd 1024 k) = ix3 b t ⟨k.val, by omega⟩ := by
      funext a; match a with | ⟨0, _⟩ => rfl | ⟨1, _⟩ => rfl | ⟨2, _⟩ => rfl
    unfold val_main_v25
    refine (congrArg _ ec).trans ?_
    revert hv
    generalize val_main_v22 (F := Ideal) x0 x1 x2 x3 = u
    generalize val_main_v24 (F := Ideal) x4 = v
    intro hv
    pointwise []
    exact hv _ rfl rfl rfl
  · refine Finset.sum_congr rfl fun k _ => congrArg₂ (· * ·) ?_ (at2_idx x5 _)
    have hk : k.val < 1024 := k.2
    have hv : ∀ y : S2x4096x1024.Idx, (y 0).val = b.val → (y 1).val = t.val → (y 2).val = k.val →
        val_main_v24 (F := Ideal) x4 y = at2 x4 (4096 * b.val + t.val) k.val := by
      intro y y0 y1 y2
      rw [val_main_v24_apply, val_main_v23_apply, at2_idx x4]
      refine congrArg₂ (at2 x4) ?_ ?_
      · show (((y 0).val * 4096 + (y 1).val) * 1024 + (y 2).val) / 1024 = _; omega
      · show (((y 0).val * 4096 + (y 1).val) * 1024 + (y 2).val) % 1024 = _; omega
    have ec : lidx_main_v26 (ix3 b t e) (Fin.natAdd 1024 k) = ix3 b t ⟨1024 + k.val, by omega⟩ := by
      funext a; match a with | ⟨0, _⟩ => rfl | ⟨1, _⟩ => rfl | ⟨2, _⟩ => rfl
    unfold val_main_v25
    refine (congrArg _ ec).trans ?_
    revert hv
    generalize val_main_v22 (F := Ideal) x0 x1 x2 x3 = u
    generalize val_main_v24 (F := Ideal) x4 = v
    intro hv
    pointwise []
    exact hv _ rfl rfl rfl

/-- The result. -/
theorem r30 (e : Fin 2048) : val_main_v30 (F := Ideal) x0 x1 x2 x3 x4 x5 x6 x7 (ix3 b t e) = out (args x0 x1 x2 x3 x4 x5 x6 x7) (4096 * b.val + t.val) e.val := by
  have ht : t.val < 4096 := t.2
  have he : e.val < 2048 := e.2
  have hb : (4096 * b.val + t.val) / 4096 = b.val := by omega
  rw [val_main_v30_apply, val_main_v27_apply, val_main_v29_apply, val_main_v28_apply, r26 x0 x1 x2 x3 x4 x5 x6 x7, at2_idx x6, at3_idx x7]
  unfold out
  rw [hb]
  refine congrArg₂ (· + ·) (congrArg₂ (at2 x6) ?_ ?_) rfl
  · show ((b.val * 4096 + t.val) * 2048 + e.val) / 2048 = _; omega
  · show ((b.val * 4096 + t.val) * 2048 + e.val) % 2048 = _; omega

/-- The reference computes the output projection of its arguments. -/
theorem ref_out (i : S8192x2048.Idx) : val_main_v31 (F := Ideal) x0 x1 x2 x3 x4 x5 x6 x7 i = out (args x0 x1 x2 x3 x4 x5 x6 x7) (i 0).val (i 1).val := by
  have h0 : (i 0).val < 8192 := (i 0).isLt
  have h1 : (i 1).val < 2048 := (i 1).isLt
  rw [val_main_v31_apply]
  have e : idx_main_v31 i = ix3 ⟨(i 0).val / 4096, by omega⟩ ⟨(i 0).val % 4096, by omega⟩ ⟨(i 1).val, h1⟩ := by
    funext a
    match a with
    | ⟨0, _⟩ => exact Fin.ext (by show ((i 0).val * 2048 + (i 1).val) / 8388608 = (i 0).val / 4096; omega)
    | ⟨1, _⟩ => exact Fin.ext (by show ((i 0).val * 2048 + (i 1).val) / 2048 % 4096 = (i 0).val % 4096; omega)
    | ⟨2, _⟩ => exact Fin.ext (by show ((i 0).val * 2048 + (i 1).val) % 2048 = (i 1).val; omega)
  rw [e, r30]
  congr 1
  show 4096 * ((i 0).val / 4096) + (i 0).val % 4096 = _
  omega

end Cert.OutReferenceIdeal.Ref

end
-- ==== Proof.OutClaims.lean ====
module

public import proofs.«01_k».proof.Defs
public import proofs.«01_k».proof.Proof.OutValue
public import proofs.«01_k».proof.Proof.OutRef
public import proofs.«01_k».proof.Proof.Gen.Out.Frame
public import proofs.«01_k».proof.Proof.Gen.OutIdeal.Frame
public import proofs.«01_k».proof.Proof.Gen.OutReferenceIdeal.Run
public import Idealize.ShloMosaic.Lib.Quiescent

/-! # The claims about the output projection -/

@[expose] public section

set_option maxRecDepth 16384

noncomputable section

namespace Cert.OutClaims

open Idealize.ShloMosaic Idealize.ShloMosaic.TcCoe Idealize.SL.Sem

/-- The call as run leaves its arguments as they were and its semaphores at zero. -/
theorem frame_p : Cert.quiescent_Out := fun m ρ _ => Cert.Out.Gen.frame m ρ

/-- So does the call over the extended reals. -/
theorem frame_pi : Cert.quiescent_OutIdeal := fun m ρ _ => Cert.OutIdeal.Gen.frame m ρ

/-- So does the reference over the extended reals. -/
theorem frame_ri : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- No operation is replaced, so there is nothing to preserve. -/
theorem preserves : Cert.preserves_Out_OutIdeal := trivial

/-- On all arguments the call's result and the reference's are one array, the output projection of the arguments. -/
theorem algebraic : Cert.algebraic_OutIdeal_OutReferenceIdeal := by
  intro m ρ m' ρ' _ hag
  refine ⟨fun c => Cert.OutIdeal.Tile.G m c, ?_, ?_⟩
  · exact (θ_run Cert.OutIdeal.defs _ _).mono
      (fun r h c => ⟨(h c).1.trans (Cert.OutIdeal.Tile.final_o m c), (h c).2⟩) (Cert.OutIdeal.Value.run_blocks (F := Ideal) m ρ)
  · refine (θ_run Cert.OutReferenceIdeal.defs _ _).mono (fun r h c => ⟨(h c).1.trans ?_, (h c).2⟩)
      (Cert.OutReferenceIdeal.Value.run (F := Ideal) m' ρ')
    obtain ⟨e0, e1, e2, e3, e4, e5, e6, e7⟩ := hag c
    rw [Cert.OutReferenceIdeal.Read.val_main_v31_eq, e0, e1, e2, e3, e4, e5, e6, e7]
    funext i
    exact Cert.OutReferenceIdeal.Ref.ref_out _ _ _ _ _ _ _ _ i

end Cert.OutClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.FfnIdeal
public import proofs.«01_k».proof.Proof.Gen.FfnReferenceIdeal
public import proofs.«01_k».proof.Proof.Gen.FfnIdeal.Frame
public import proofs.«01_k».proof.Proof.Gen.FfnIdeal.Skeleton
public import proofs.«01_k».proof.Proof.Gen.FfnReferenceIdeal.Run
public import proofs.«01_k».proof.Proof.Gen.FfnReferenceIdeal.Read
public import proofs.«01_k».proof.Proof.Gen.Out
public import proofs.«01_k».proof.Proof.Gen.OutIdeal
public import proofs.«01_k».proof.Proof.Gen.OutReferenceIdeal
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.Gen.OutReferenceIdeal.Read
public import proofs.«01_k».proof.Proof.AttnClaims
public import proofs.«01_k».proof.Proof.FfnClaims
public import proofs.«01_k».proof.Proof.OutClaims

/-! # The certificate's claim -/

@[expose] public section

noncomputable section

namespace Cert.Proof

/-- Every claim the statement states: proved for each program in its own module. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Out.Gen.facts, Cert.OutIdeal.Gen.facts, Cert.OutReferenceIdeal.Gen.facts, Cert.Pre_finite.Gen.facts,
    AttnClaims.frame_p, AttnClaims.frame_pi, AttnClaims.frame_pi_finite, AttnClaims.frame_ri, AttnClaims.frame_ri_finite,
    FfnClaims.frame_p, FfnClaims.frame_pi, FfnClaims.frame_ri, OutClaims.frame_p, OutClaims.frame_pi, OutClaims.frame_ri,
    AttnClaims.preserves, AttnClaims.algebraic, FfnClaims.preserves, FfnClaims.algebraic, OutClaims.preserves, OutClaims.algebraic⟩

end Cert.Proof

end
